-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S2x512x1024 : Shape := ⟨3, ![2, 512, 1024]⟩
abbrev S2x2 : Shape := ⟨2, ![2, 2]⟩
abbrev S8x128 : Shape := ⟨2, ![8, 128]⟩
abbrev S56x128 : Shape := ⟨2, ![56, 128]⟩
abbrev S7 : Shape := ⟨1, ![7]⟩
abbrev S2 : Shape := ⟨1, ![2]⟩
abbrev S_ : Shape := ⟨0, ![]⟩
abbrev S512x512 : Shape := ⟨2, ![512, 512]⟩
abbrev S1x512x512 : Shape := ⟨3, ![1, 512, 512]⟩
abbrev S1x1 : Shape := ⟨2, ![1, 1]⟩
abbrev S512x1024 : Shape := ⟨2, ![512, 1024]⟩
abbrev S1 : Shape := ⟨1, ![1]⟩
abbrev S1x512x1024 : Shape := ⟨3, ![1, 512, 1024]⟩
abbrev S1x1x1 : Shape := ⟨3, ![1, 1, 1]⟩
abbrev S1x56x128 : Shape := ⟨3, ![1, 56, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S512x2048, .f32⟩
  | .local _ .vmem, ⟨3, _⟩ => ⟨S2x512x1024, .bf16⟩
  | .local _ .vmem, ⟨4, _⟩ => ⟨S2x512x1024, .bf16⟩
  | .local _ .vmem, ⟨5, _⟩ => ⟨S8x128, .f32⟩
  | .local _ .vmem, ⟨6, _⟩ => ⟨S56x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 5 33 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch6 : Ref sig .tc := ⟨.vmem, 5, rfl⟩
abbrev cc0_scratch7 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_14 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v21 : BitVec 32 := Scalar.addi v2 c16_i32
  let c1_i32_13 : BitVec 32 := 1#32
  let v22 : BitVec 32 := Scalar.subi v21 c1_i32_13
  let v23 : BitVec 32 := Scalar.subi v22 c0_i32_14
  let c8_i32_15 : BitVec 32 := 8#32
  let v24 : BitVec 32 := Scalar.remsi v23 c8_i32_15
  let c512_i32 : BitVec 32 := 512#32
  let v28 : BitVec 32 := Scalar.muli v24 c512_i32
  let v29 : Index := Scalar.indexCast v28
  let c0_19 : Index := 0#32
  ![v29.toNat, 0]
def k0_off2 (d0 : Dev nD) (c0_i32_17 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v25 : BitVec 32 := Scalar.addi v2 c1_i32_16
  let v26 : BitVec 32 := Scalar.addi v25 c0_i32_17
  let c8_i32_18 : BitVec 32 := 8#32
  let v27 : BitVec 32 := Scalar.remsi v26 c8_i32_18
  let c512_i32_20 : BitVec 32 := 512#32
  let v32 : BitVec 32 := Scalar.muli v27 c512_i32_20
  let v33 : Index := Scalar.indexCast v32
  let c0_21 : Index := 0#32
  ![v33.toNat, 0]
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_33 : BitVec 32 := 1#32
  let v51 : BitVec 32 := Scalar.muli v7 c1_i32_33
  let v52 : BitVec 32 := Scalar.addi c0_i32_34 v51
  v52.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_51 : BitVec 32 := 1#32
  let v76 : BitVec 32 := Scalar.muli v5 c1_i32_51
  let v77 : BitVec 32 := Scalar.addi c0_i32_52 v76
  v77.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_68 : BitVec 32 := 1#32
  let v101 : BitVec 32 := Scalar.muli v7 c1_i32_68
  let v102 : BitVec 32 := Scalar.addi c0_i32_69 v101
  v102.toNat
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_86 : BitVec 32 := 1#32
  let v126 : BitVec 32 := Scalar.muli v5 c1_i32_86
  let v127 : BitVec 32 := Scalar.addi c0_i32_87 v126
  v127.toNat
def k0_dev7 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_134 : BitVec 32 := 1#32
  let v189 : BitVec 32 := Scalar.muli v5 c1_i32_134
  let v190 : BitVec 32 := Scalar.addi c0_i32_135 v189
  v190.toNat
def k0_dev8 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_150 : BitVec 32 := 1#32
  let v202 : BitVec 32 := Scalar.muli v7 c1_i32_150
  let v203 : BitVec 32 := Scalar.addi c0_i32_151 v202
  v203.toNat
def k0_dev9 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_181 : BitVec 32 := 1#32
  let v228 : BitVec 32 := Scalar.muli v7 c1_i32_181
  let v229 : BitVec 32 := Scalar.addi c0_i32_182 v228
  v229.toNat
def k0_dev10 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_198 : BitVec 32 := 1#32
  let v241 : BitVec 32 := Scalar.muli v5 c1_i32_198
  let v242 : BitVec 32 := Scalar.addi c0_i32_199 v241
  v242.toNat
def k0_dev11 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_229 : BitVec 32 := 1#32
  let v267 : BitVec 32 := Scalar.muli v5 c1_i32_229
  let v268 : BitVec 32 := Scalar.addi c0_i32_230 v267
  v268.toNat
def k0_dev12 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_246 : BitVec 32 := 1#32
  let v280 : BitVec 32 := Scalar.muli v7 c1_i32_246
  let v281 : BitVec 32 := Scalar.addi c0_i32_247 v280
  v281.toNat
def k0_dev13 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_277 : BitVec 32 := 1#32
  let v306 : BitVec 32 := Scalar.muli v7 c1_i32_277
  let v307 : BitVec 32 := Scalar.addi c0_i32_278 v306
  v307.toNat
def k0_dev14 (d0 : Dev nD) : Nat :=
  let c0_i32_295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_294 : BitVec 32 := 1#32
  let v319 : BitVec 32 := Scalar.muli v5 c1_i32_294
  let v320 : BitVec 32 := Scalar.addi c0_i32_295 v319
  v320.toNat
def k0_dev15 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_342 : BitVec 32 := 1#32
  let v382 : BitVec 32 := Scalar.muli v5 c1_i32_342
  let v383 : BitVec 32 := Scalar.addi c0_i32_343 v382
  v383.toNat
def k0_dev16 (d0 : Dev nD) : Nat :=
  let c0_i32_360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_359 : BitVec 32 := 1#32
  let v395 : BitVec 32 := Scalar.muli v7 c1_i32_359
  let v396 : BitVec 32 := Scalar.addi c0_i32_360 v395
  v396.toNat
def k0_dev17 (d0 : Dev nD) : Nat :=
  let c0_i32_391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_390 : BitVec 32 := 1#32
  let v421 : BitVec 32 := Scalar.muli v7 c1_i32_390
  let v422 : BitVec 32 := Scalar.addi c0_i32_391 v421
  v422.toNat
def k0_dev18 (d0 : Dev nD) : Nat :=
  let c0_i32_408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_407 : BitVec 32 := 1#32
  let v434 : BitVec 32 := Scalar.muli v5 c1_i32_407
  let v435 : BitVec 32 := Scalar.addi c0_i32_408 v434
  v435.toNat
def k0_dev19 (d0 : Dev nD) : Nat :=
  let c0_i32_439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_438 : BitVec 32 := 1#32
  let v460 : BitVec 32 := Scalar.muli v5 c1_i32_438
  let v461 : BitVec 32 := Scalar.addi c0_i32_439 v460
  v461.toNat
def k0_dev20 (d0 : Dev nD) : Nat :=
  let c0_i32_456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_455 : BitVec 32 := 1#32
  let v473 : BitVec 32 := Scalar.muli v7 c1_i32_455
  let v474 : BitVec 32 := Scalar.addi c0_i32_456 v473
  v474.toNat
def k0_dev21 (d0 : Dev nD) : Nat :=
  let c0_i32_487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_486 : BitVec 32 := 1#32
  let v499 : BitVec 32 := Scalar.muli v7 c1_i32_486
  let v500 : BitVec 32 := Scalar.addi c0_i32_487 v499
  v500.toNat
def k0_dev22 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_503 : BitVec 32 := 1#32
  let v512 : BitVec 32 := Scalar.muli v5 c1_i32_503
  let v513 : BitVec 32 := Scalar.addi c0_i32_504 v512
  v513.toNat
def k0_dev23 (d0 : Dev nD) : Nat :=
  let c0_i32_551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_550 : BitVec 32 := 1#32
  let v575 : BitVec 32 := Scalar.muli v5 c1_i32_550
  let v576 : BitVec 32 := Scalar.addi c0_i32_551 v575
  v576.toNat
def k0_dev24 (d0 : Dev nD) : Nat :=
  let c0_i32_568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_567 : BitVec 32 := 1#32
  let v588 : BitVec 32 := Scalar.muli v7 c1_i32_567
  let v589 : BitVec 32 := Scalar.addi c0_i32_568 v588
  v589.toNat
def k0_dev25 (d0 : Dev nD) : Nat :=
  let c0_i32_599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_598 : BitVec 32 := 1#32
  let v614 : BitVec 32 := Scalar.muli v7 c1_i32_598
  let v615 : BitVec 32 := Scalar.addi c0_i32_599 v614
  v615.toNat
def k0_dev26 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_615 : BitVec 32 := 1#32
  let v627 : BitVec 32 := Scalar.muli v5 c1_i32_615
  let v628 : BitVec 32 := Scalar.addi c0_i32_616 v627
  v628.toNat
def k0_dev27 (d0 : Dev nD) : Nat :=
  let c0_i32_647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_646 : BitVec 32 := 1#32
  let v653 : BitVec 32 := Scalar.muli v5 c1_i32_646
  let v654 : BitVec 32 := Scalar.addi c0_i32_647 v653
  v654.toNat
def k0_dev28 (d0 : Dev nD) : Nat :=
  let c0_i32_664 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_663 : BitVec 32 := 1#32
  let v666 : BitVec 32 := Scalar.muli v7 c1_i32_663
  let v667 : BitVec 32 := Scalar.addi c0_i32_664 v666
  v667.toNat
def k0_dev29 (d0 : Dev nD) : Nat :=
  let c0_i32_695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_694 : BitVec 32 := 1#32
  let v692 : BitVec 32 := Scalar.muli v7 c1_i32_694
  let v693 : BitVec 32 := Scalar.addi c0_i32_695 v692
  v693.toNat
def k0_dev30 (d0 : Dev nD) : Nat :=
  let c0_i32_712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_711 : BitVec 32 := 1#32
  let v705 : BitVec 32 := Scalar.muli v5 c1_i32_711
  let v706 : BitVec 32 := Scalar.addi c0_i32_712 v705
  v706.toNat
def k0_dev31 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_758 : BitVec 32 := 1#32
  let v768 : BitVec 32 := Scalar.muli v5 c1_i32_758
  let v769 : BitVec 32 := Scalar.addi c0_i32_759 v768
  v769.toNat
def k0_dev32 (d0 : Dev nD) : Nat :=
  let c0_i32_776 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_775 : BitVec 32 := 1#32
  let v781 : BitVec 32 := Scalar.muli v7 c1_i32_775
  let v782 : BitVec 32 := Scalar.addi c0_i32_776 v781
  v782.toNat
def k0_dev33 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_806 : BitVec 32 := 1#32
  let v807 : BitVec 32 := Scalar.muli v7 c1_i32_806
  let v808 : BitVec 32 := Scalar.addi c0_i32_807 v807
  v808.toNat
def k0_dev34 (d0 : Dev nD) : Nat :=
  let c0_i32_824 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_823 : BitVec 32 := 1#32
  let v820 : BitVec 32 := Scalar.muli v5 c1_i32_823
  let v821 : BitVec 32 := Scalar.addi c0_i32_824 v820
  v821.toNat
def k0_dev35 (d0 : Dev nD) : Nat :=
  let c0_i32_855 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_854 : BitVec 32 := 1#32
  let v846 : BitVec 32 := Scalar.muli v5 c1_i32_854
  let v847 : BitVec 32 := Scalar.addi c0_i32_855 v846
  v847.toNat
def k0_dev36 (d0 : Dev nD) : Nat :=
  let c0_i32_872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_871 : BitVec 32 := 1#32
  let v859 : BitVec 32 := Scalar.muli v7 c1_i32_871
  let v860 : BitVec 32 := Scalar.addi c0_i32_872 v859
  v860.toNat
def k0_dev37 (d0 : Dev nD) : Nat :=
  let c0_i32_903 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_902 : BitVec 32 := 1#32
  let v885 : BitVec 32 := Scalar.muli v7 c1_i32_902
  let v886 : BitVec 32 := Scalar.addi c0_i32_903 v885
  v886.toNat
def k0_dev38 (d0 : Dev nD) : Nat :=
  let c0_i32_920 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_919 : BitVec 32 := 1#32
  let v898 : BitVec 32 := Scalar.muli v5 c1_i32_919
  let v899 : BitVec 32 := Scalar.addi c0_i32_920 v898
  v899.toNat
def k0_dev39 (d0 : Dev nD) : Nat :=
  let c0_i32_967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_966 : BitVec 32 := 1#32
  let v961 : BitVec 32 := Scalar.muli v5 c1_i32_966
  let v962 : BitVec 32 := Scalar.addi c0_i32_967 v961
  v962.toNat
def k0_dev40 (d0 : Dev nD) : Nat :=
  let c0_i32_984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_983 : BitVec 32 := 1#32
  let v974 : BitVec 32 := Scalar.muli v7 c1_i32_983
  let v975 : BitVec 32 := Scalar.addi c0_i32_984 v974
  v975.toNat
def k0_dev41 (d0 : Dev nD) : Nat :=
  let c0_i32_1015 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1014 : BitVec 32 := 1#32
  let v1000 : BitVec 32 := Scalar.muli v7 c1_i32_1014
  let v1001 : BitVec 32 := Scalar.addi c0_i32_1015 v1000
  v1001.toNat
def k0_dev42 (d0 : Dev nD) : Nat :=
  let c0_i32_1032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1031 : BitVec 32 := 1#32
  let v1013 : BitVec 32 := Scalar.muli v5 c1_i32_1031
  let v1014 : BitVec 32 := Scalar.addi c0_i32_1032 v1013
  v1014.toNat
def k0_dev43 (d0 : Dev nD) : Nat :=
  let c0_i32_1063 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1062 : BitVec 32 := 1#32
  let v1039 : BitVec 32 := Scalar.muli v5 c1_i32_1062
  let v1040 : BitVec 32 := Scalar.addi c0_i32_1063 v1039
  v1040.toNat
def k0_dev44 (d0 : Dev nD) : Nat :=
  let c0_i32_1080 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1079 : BitVec 32 := 1#32
  let v1052 : BitVec 32 := Scalar.muli v7 c1_i32_1079
  let v1053 : BitVec 32 := Scalar.addi c0_i32_1080 v1052
  v1053.toNat
def k0_dev45 (d0 : Dev nD) : Nat :=
  let c0_i32_1111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1110 : BitVec 32 := 1#32
  let v1078 : BitVec 32 := Scalar.muli v7 c1_i32_1110
  let v1079 : BitVec 32 := Scalar.addi c0_i32_1111 v1078
  v1079.toNat
def k0_dev46 (d0 : Dev nD) : Nat :=
  let c0_i32_1128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1127 : BitVec 32 := 1#32
  let v1091 : BitVec 32 := Scalar.muli v5 c1_i32_1127
  let v1092 : BitVec 32 := Scalar.addi c0_i32_1128 v1091
  v1092.toNat
def k0_dev47 (d0 : Dev nD) : Nat :=
  let c0_i32_1175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1174 : BitVec 32 := 1#32
  let v1154 : BitVec 32 := Scalar.muli v5 c1_i32_1174
  let v1155 : BitVec 32 := Scalar.addi c0_i32_1175 v1154
  v1155.toNat
def k0_dev48 (d0 : Dev nD) : Nat :=
  let c0_i32_1192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1191 : BitVec 32 := 1#32
  let v1167 : BitVec 32 := Scalar.muli v7 c1_i32_1191
  let v1168 : BitVec 32 := Scalar.addi c0_i32_1192 v1167
  v1168.toNat
def k0_dev49 (d0 : Dev nD) : Nat :=
  let c0_i32_1223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1222 : BitVec 32 := 1#32
  let v1193 : BitVec 32 := Scalar.muli v7 c1_i32_1222
  let v1194 : BitVec 32 := Scalar.addi c0_i32_1223 v1193
  v1194.toNat
def k0_dev50 (d0 : Dev nD) : Nat :=
  let c0_i32_1240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1239 : BitVec 32 := 1#32
  let v1206 : BitVec 32 := Scalar.muli v5 c1_i32_1239
  let v1207 : BitVec 32 := Scalar.addi c0_i32_1240 v1206
  v1207.toNat
def k0_dev51 (d0 : Dev nD) : Nat :=
  let c0_i32_1271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1270 : BitVec 32 := 1#32
  let v1232 : BitVec 32 := Scalar.muli v5 c1_i32_1270
  let v1233 : BitVec 32 := Scalar.addi c0_i32_1271 v1232
  v1233.toNat
def k0_dev52 (d0 : Dev nD) : Nat :=
  let c0_i32_1288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1287 : BitVec 32 := 1#32
  let v1245 : BitVec 32 := Scalar.muli v7 c1_i32_1287
  let v1246 : BitVec 32 := Scalar.addi c0_i32_1288 v1245
  v1246.toNat
def k0_dev53 (d0 : Dev nD) : Nat :=
  let c0_i32_1319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1318 : BitVec 32 := 1#32
  let v1271 : BitVec 32 := Scalar.muli v7 c1_i32_1318
  let v1272 : BitVec 32 := Scalar.addi c0_i32_1319 v1271
  v1272.toNat
def k0_dev54 (d0 : Dev nD) : Nat :=
  let c0_i32_1336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1335 : BitVec 32 := 1#32
  let v1284 : BitVec 32 := Scalar.muli v5 c1_i32_1335
  let v1285 : BitVec 32 := Scalar.addi c0_i32_1336 v1284
  v1285.toNat
def k0_dev55 (d0 : Dev nD) : Nat :=
  let c0_i32_1464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1459 : BitVec 32 := 1#32
  let v1410 : BitVec 32 := Scalar.addi v2 c1_i32_1459
  let c8_i32_1460 : BitVec 32 := 8#32
  let v1411 : BitVec 32 := Scalar.remsi v1410 c8_i32_1460
  let c1_i32_1463 : BitVec 32 := 1#32
  let v1412 : BitVec 32 := Scalar.muli v1411 c1_i32_1463
  let v1413 : BitVec 32 := Scalar.addi c0_i32_1464 v1412
  v1413.toNat
def k0_dev56 (d0 : Dev nD) : Nat :=
  let c0_i32_1474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1469 : BitVec 32 := 2#32
  let v1420 : BitVec 32 := Scalar.addi v2 c2_i32_1469
  let c8_i32_1470 : BitVec 32 := 8#32
  let v1421 : BitVec 32 := Scalar.remsi v1420 c8_i32_1470
  let c1_i32_1473 : BitVec 32 := 1#32
  let v1422 : BitVec 32 := Scalar.muli v1421 c1_i32_1473
  let v1423 : BitVec 32 := Scalar.addi c0_i32_1474 v1422
  v1423.toNat
def k0_dev57 (d0 : Dev nD) : Nat :=
  let c0_i32_1484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1479 : BitVec 32 := 3#32
  let v1430 : BitVec 32 := Scalar.addi v2 c3_i32_1479
  let c8_i32_1480 : BitVec 32 := 8#32
  let v1431 : BitVec 32 := Scalar.remsi v1430 c8_i32_1480
  let c1_i32_1483 : BitVec 32 := 1#32
  let v1432 : BitVec 32 := Scalar.muli v1431 c1_i32_1483
  let v1433 : BitVec 32 := Scalar.addi c0_i32_1484 v1432
  v1433.toNat
def k0_dev58 (d0 : Dev nD) : Nat :=
  let c0_i32_1494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1489 : BitVec 32 := 4#32
  let v1440 : BitVec 32 := Scalar.addi v2 c4_i32_1489
  let c8_i32_1490 : BitVec 32 := 8#32
  let v1441 : BitVec 32 := Scalar.remsi v1440 c8_i32_1490
  let c1_i32_1493 : BitVec 32 := 1#32
  let v1442 : BitVec 32 := Scalar.muli v1441 c1_i32_1493
  let v1443 : BitVec 32 := Scalar.addi c0_i32_1494 v1442
  v1443.toNat
def k0_dev59 (d0 : Dev nD) : Nat :=
  let c0_i32_1503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1498 : BitVec 32 := 5#32
  let v1450 : BitVec 32 := Scalar.addi v2 c5_i32_1498
  let c8_i32_1499 : BitVec 32 := 8#32
  let v1451 : BitVec 32 := Scalar.remsi v1450 c8_i32_1499
  let c1_i32_1502 : BitVec 32 := 1#32
  let v1452 : BitVec 32 := Scalar.muli v1451 c1_i32_1502
  let v1453 : BitVec 32 := Scalar.addi c0_i32_1503 v1452
  v1453.toNat
def k0_dev60 (d0 : Dev nD) : Nat :=
  let c0_i32_1512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1507 : BitVec 32 := 6#32
  let v1460 : BitVec 32 := Scalar.addi v2 c6_i32_1507
  let c8_i32_1508 : BitVec 32 := 8#32
  let v1461 : BitVec 32 := Scalar.remsi v1460 c8_i32_1508
  let c1_i32_1511 : BitVec 32 := 1#32
  let v1462 : BitVec 32 := Scalar.muli v1461 c1_i32_1511
  let v1463 : BitVec 32 := Scalar.addi c0_i32_1512 v1462
  v1463.toNat
def k0_dev61 (d0 : Dev nD) : Nat :=
  let c0_i32_1521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1516 : BitVec 32 := 7#32
  let v1470 : BitVec 32 := Scalar.addi v2 c7_i32_1516
  let c8_i32_1517 : BitVec 32 := 8#32
  let v1471 : BitVec 32 := Scalar.remsi v1470 c8_i32_1517
  let c1_i32_1520 : BitVec 32 := 1#32
  let v1472 : BitVec 32 := Scalar.muli v1471 c1_i32_1520
  let v1473 : BitVec 32 := Scalar.addi c0_i32_1521 v1472
  v1473.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Prog.lean ====
/- The kernel's body written by its structure: a barrier with the two neighbours, a first hop per
   direction and column half, six hops that pass the partial sums on, a last reception, the exchange
   of the maxima and the two output halves. `body_eq` says that the printed body is this program. -/
module

public import proofs.«01_k».proof.Proof.Gen.KernelIdeal.Skeleton
public import Idealize.ShloMosaic.Lib.Tactic

@[expose] public section

noncomputable section

namespace Cert.KernelIdeal.Ring

open Idealize.ShloMosaic Idealize.ShloMosaic.TcCoe Idealize.ShloMosaic.Tactic
open Idealize.SL Idealize.SL.Sem
open Cert.KernelIdeal Cert.KernelIdeal.Gen

variable {F : FTy → Type} [FloatOps F]

/-- The programs a device runs. -/
abbrev Pg (F : FTy → Type) (α : Type) := Prog (TpuEff nD τ sig (Elt F) Λ₀ .tc) α

/-! ## Directions, slots, halves

A direction is a Boolean: `false` is the stream of column half 1024… towards the right neighbour,
`true` the stream of column half 0… towards the left neighbour. A communication buffer has two slots
and each slot two column chunks, both counted in `Fin 2`. -/

/-- The other slot. -/
def flip (p : Fin 2) : Fin 2 := if p = 0 then 1 else 0

theorem flip_flip (p : Fin 2) : flip (flip p) = p := by revert p; decide

/-- The slot a step's message lies in. -/
def par (s : ℕ) : Fin 2 := ⟨s % 2, Nat.mod_lt _ (by decide)⟩

theorem par_succ (s : ℕ) : par (s + 1) = flip (par s) := by
  unfold par flip
  rcases Nat.mod_two_eq_zero_or_one s with h | h <;> simp [Fin.ext_iff, Nat.add_mod, h]

/-- The neighbour a direction's messages go to. -/
def tgt (d : Bool) (c : Dev nD) : Dev nD := match d with
  | false => ⟨k0_dev2 c, k0_dev2_lt c⟩
  | true => ⟨k0_dev1 c, k0_dev1_lt c⟩

/-- The neighbour a direction's messages come from. -/
def src (d : Bool) (c : Dev nD) : Dev nD := tgt (!d) c

/-- A direction's communication buffer. -/
def cbuf (d : Bool) : Ref sig .tc := match d with
  | false => cc0_scratch0
  | true => cc0_scratch1

/-- The buffer as a memref. -/
def cmem (d : Bool) : Memref sig .tc .vmem S2x512x1024 .bf16 := match d with
  | false => Memref.whole cc0_scratch0
  | true => Memref.whole cc0_scratch1

theorem cmem_whole (d : Bool) : (cmem d).IsWhole := match d with
  | false => Memref.isWhole_whole _
  | true => Memref.isWhole_whole _

theorem crect_inb (p q : Fin 2) : ∀ a, (![p.val, 0, 512 * q.val] : Fin 3 → ℕ) a + S1x512x512.size a ≤ S2x512x1024.size a := by
  revert p q; decide

/-- Chunk `q` of slot `p`. -/
def crect (p q : Fin 2) : Rect S2x512x1024 := Rect.unit (s := S2x512x1024) ![p.val, 0, 512 * q.val] S1x512x512.size (crect_inb p q)

/-- Chunk `q` of slot `p` of direction `d`'s buffer, as a block of the buffer. -/
def chunk (d : Bool) (p q : Fin 2) : Memref sig .tc .vmem S1x512x512 .bf16 := (cmem d).slice (crect p q) (fun _ => rfl)

/-- The same elements as the copies name them. -/
def chunkM (d : Bool) (p q : Fin 2) : Memref sig .tc .vmem S512x512 .bf16 := (chunk d p q).squeeze S512x512 squeezes_S1x512x512_S512x512

theorem crect_words (p q : Fin 2) : (crect p q).WholeWords (EltTy.packing .bf16) := by
  match p, q with
  | 0, 0 => exact wordsbf16_S2x512x1024_S1x512x512_0_0_0
  | 0, 1 => exact wordsbf16_S2x512x1024_S1x512x512_0_0_512
  | 1, 0 => exact wordsbf16_S2x512x1024_S1x512x512_1_0_0
  | 1, 1 => exact wordsbf16_S2x512x1024_S1x512x512_1_0_512

theorem crect_packed (p q : Fin 2) : (crect p q).PackedRows (EltTy.packing .bf16) := by
  match p, q with
  | 0, 0 => exact packedbf16_S2x512x1024_S1x512x512_0_0_0
  | 0, 1 => exact packedbf16_S2x512x1024_S1x512x512_0_0_512
  | 1, 0 => exact packedbf16_S2x512x1024_S1x512x512_1_0_0
  | 1, 1 => exact packedbf16_S2x512x1024_S1x512x512_1_0_512

theorem chunkM_words (d : Bool) (p q : Fin 2) : (chunkM d p q).view.WordExact :=
  ((cmem_whole d).wordExact_slice rfl _ (crect_words p q)).reshape _ _

theorem sem_inb (p q : Fin 2) : ∀ a, (![p.val, q.val] : Fin 2 → ℕ) a + S1x1.size a ≤ S2x2.size a := by
  revert p q; decide

/-- The semaphore of the messages leaving chunk `q` of slot `p`. -/
def sndS (d : Bool) (p q : Fin 2) : DmaSem sig :=
  (((match d with | false => cc0_scratch2 | true => cc0_scratch4 : DmaSems sig S2x2).slice
    (Rect.unit (s := S2x2) ![p.val, q.val] S1x1.size (sem_inb p q))).squeeze S_ squeezes_S1x1_S_).sem

/-- The semaphore of the messages arriving in chunk `q` of slot `p`. -/
def rcvS (d : Bool) (p q : Fin 2) : DmaSem sig :=
  (((match d with | false => cc0_scratch3 | true => cc0_scratch5 : DmaSems sig S2x2).slice
    (Rect.unit (s := S2x2) ![p.val, q.val] S1x1.size (sem_inb p q))).squeeze S_ squeezes_S1x1_S_).sem

theorem cap_inb (q : Fin 2) : ∀ a, (![q.val] : Fin 1 → ℕ) a + S1.size a ≤ S2.size a := by
  revert q; decide

/-- The semaphore by which the next device says that its slot is free again. -/
def capS (d : Bool) (q : Fin 2) : Sem sig :=
  (((match d with | false => cc0_scratch10 | true => cc0_scratch11 : Sems sig S2).slice
    (Rect.unit (s := S2) ![q.val] S1.size (cap_inb q))).squeeze S_ squeezes_S1_S_).sem

/-! ## The exchange of the maxima -/

theorem arect_inb (k : Fin 7) : ∀ a, (![8 * k.val, 0] : Fin 2 → ℕ) a + S8x128.size a ≤ S56x128.size a := by
  revert k; decide

/-- The rows of the receive buffer that are for the device `k + 1` places before. -/
def arect (k : Fin 7) : Rect S56x128 := Rect.unit (s := S56x128) ![8 * k.val, 0] S8x128.size (arect_inb k)

/-- Those rows as a memref. -/
def arow (k : Fin 7) : Memref sig .tc .vmem S8x128 .f32 := (Memref.whole cc0_scratch7).slice (arect k) (fun _ => rfl)

/-- The rectangle of the whole local maximum buffer. -/
def lrect : Rect S8x128 := Rect.unit (s := S8x128) ![0, 0] S8x128.size inb_S8x128_S8x128_0_0

/-- The device's own maximum as the copies name it. -/
def aloc : Memref sig .tc .vmem S8x128 .f32 := (Memref.whole cc0_scratch6).slice lrect (fun _ => rfl)

theorem asem_inb (k : Fin 7) : ∀ a, (![k.val] : Fin 1 → ℕ) a + S1.size a ≤ S7.size a := by
  revert k; decide

/-- The semaphores of the copy to, and of the copy from, the device `k + 1` places away. -/
def asndS (k : Fin 7) : DmaSem sig :=
  ((cc0_scratch8.slice (Rect.unit (s := S7) ![k.val] S1.size (asem_inb k))).squeeze S_ squeezes_S1_S_).sem

@[inherit_doc asndS]
def arcvS (k : Fin 7) : DmaSem sig :=
  ((cc0_scratch9.slice (Rect.unit (s := S7) ![k.val] S1.size (asem_inb k))).squeeze S_ squeezes_S1_S_).sem

/-- The device `k + 1` places after `c` on the ring, as the kernel computes it. -/
def adev (c : Dev nD) (k : Fin 7) : Dev nD := match k with
  | 0 => ⟨k0_dev55 c, k0_dev55_lt c⟩
  | 1 => ⟨k0_dev56 c, k0_dev56_lt c⟩
  | 2 => ⟨k0_dev57 c, k0_dev57_lt c⟩
  | 3 => ⟨k0_dev58 c, k0_dev58_lt c⟩
  | 4 => ⟨k0_dev59 c, k0_dev59_lt c⟩
  | 5 => ⟨k0_dev60 c, k0_dev60_lt c⟩
  | 6 => ⟨k0_dev61 c, k0_dev61_lt c⟩

/-! ## The values -/

/-- The rows of the input that a device multiplies at step `s` in direction `d`. -/
def xrect (d : Bool) (c : Dev nD) (s : Fin 8) : Rect S4096x512 := match d with
  | false => Rect.unit (s := S4096x512) (k0_off1 c (BitVec.ofNat 32 s.val)) S512x512.size (k0_off1_inb c s)
  | true => Rect.unit (s := S4096x512) (k0_off2 c (BitVec.ofNat 32 s.val)) S512x512.size (k0_off2_inb c s)

/-- A device's own product at a later step: one column half. -/
def partV (d : Bool) (hi lo : FVec F S512x2048 .bf16) (x : Vec F S512x512 .f32) : FVec F S512x1024 .f32 := match d with
  | false => k0_pay14 hi lo x
  | true => k0_pay78 hi lo x

/-- The first message: a device's own product, one column chunk. -/
def firstV (d : Bool) (q : Fin 2) (hi lo : FVec F S512x2048 .bf16) (x : Vec F S512x512 .f32) : FVec F S1x512x512 .bf16 := match d, q with
  | false, 0 => k0_pay5 hi lo x
  | true, 0 => k0_pay10 (k0_pay6 hi) (k0_pay7 lo) (k0_pay8 x) (k0_pay9 x)
  | false, 1 => k0_pay12 (k0_pay11 hi lo (k0_pay3 x))
  | true, 1 => k0_pay13 hi lo (k0_pay4 x)

/-- A received chunk with the device's own product added. -/
def addV (q : Fin 2) (y : FVec F S512x1024 .f32) (v : Vec F S1x512x512 .bf16) : FVec F S1x512x512 .bf16 := match q with
  | 0 => k0_pay24 y v
  | 1 => k0_pay25 y v

/-! ## The program -/

/-- Sending chunk `q` of slot `p` on to the next device's other slot. -/
def sendM (c : Dev nD) (d : Bool) (p q : Fin 2) : Pg F PUnit :=
  Prog.lift (.enqueueDma (chunkM d p q) (.remote (Dev.tc (tgt d c)) (chunkM d (flip p) q) (.dma (sndS d p q))) (.dma (rcvS d (flip p) q))
    (chunkM_words d p q) (chunkM_words d (flip p) q) ⟨⟨rfl, Or.inl rfl⟩, trivial⟩)

/-- The waits for the message sent from slot `p` and for the one received in the other slot. -/
def waitM (d : Bool) (p q : Fin 2) : Pg F PUnit := do
  Prog.lift (.waitDma2 (sndS d p q) (chunkM d (flip p) q) (chunkM d p q) (chunkM_words d (flip p) q) (chunkM_words d p q))
  Prog.lift (.waitDma2 (rcvS d (flip p) q) (chunkM d p q) (chunkM d (flip p) q) (chunkM_words d p q) (chunkM_words d (flip p) q))

/-- Reading chunk `q` of slot `p`. -/
def loadC (d : Bool) (p q : Fin 2) : Pg F (Vec F S1x512x512 .bf16) :=
  Prog.lift (.load (cmem d) (crect p q).toLoadRect (View.loadsAt_vmem h_S1x512x512))

/-- Writing chunk `q` of slot `p`. -/
def storeC (d : Bool) (p q : Fin 2) (v : FVec F S1x512x512 .bf16) : Pg F PUnit :=
  Prog.lift (.store (cmem d) (crect p q) v Finset.univ
    (View.stores_vmem h_S1x512x512 ((cmem_whole d).storeExact_slice rfl _ (crect_packed p q)) (fun _ => rfl)) (.inl rfl))

/-- The first message of a stream. -/
def firstP (c : Dev nD) (d : Bool) (q : Fin 2) (v : FVec F S1x512x512 .bf16) : Pg F PUnit := do
  let _ ← loadC d 0 q
  storeC d 0 q v
  sendM c d 0 q

/-- One hop of a stream: wait for the last messages, give the slot back, add and send on. -/
def hopP (c : Dev nD) (d : Bool) (p q : Fin 2) (y : FVec F S512x1024 .f32) : Pg F PUnit := do
  waitM d (flip p) q
  semSignalWord (src d c) (capS d q) 1#32
  let v ← loadC d p q
  let _ ← loadC d p q
  storeC d p q (addV q y v)
  semWaitWord (capS d q) 1#32
  sendM c d p q

/-- Loading the rows of step `s`. -/
def loadX (M0 : Memref sig .tc .vmem S4096x512 .f32) (c : Dev nD) (d : Bool) (s : Fin 8) : Pg F (Vec F S512x512 .f32) :=
  match d with
  | false => Prog.lift (.load M0 (xrect false c s).toLoadRect (View.loadsAt_vmem h_S512x512))
  | true => Prog.lift (.load M0 (xrect true c s).toLoadRect (View.loadsAt_vmem h_S512x512))

/-- One step: the two products and the four hops. -/
def stepP (M0 : Memref sig .tc .vmem S4096x512 .f32) (c : Dev nD) (hi lo : FVec F S512x2048 .bf16) (s : Fin 8) : Pg F PUnit := do
  let xr ← loadX M0 c false s
  let xl ← loadX M0 c true s
  hopP c false (par s) 0 (partV false hi lo xr)
  hopP c true (par s) 0 (partV true hi lo xl)
  hopP c false (par s) 1 (partV false hi lo xr)
  hopP c true (par s) 1 (partV true hi lo xl)

/-- The steps from `8 - 1 - n` up to step 6. -/
def stepsP (M0 : Memref sig .tc .vmem S4096x512 .f32) (c : Dev nD) (hi lo : FVec F S512x2048 .bf16) : List (Fin 8) → Pg F PUnit
  | [] => pure ⟨⟩
  | s :: l => do
    stepP M0 c hi lo s
    stepsP M0 c hi lo l

/-- The whole last slot of a stream. -/
def loadS (d : Bool) : Pg F (Vec F S1x512x1024 .bf16) :=
  Prog.lift (.load (cmem d) (Rect.unit (s := S2x512x1024) ![1, 0, 0] S1x512x1024.size inb_S2x512x1024_S1x512x1024_1_0_0).toLoadRect (View.loadsAt_vmem h_S1x512x1024))

/-- One copy of the local maximum. -/
def asendP (c : Dev nD) (k : Fin 7) : Pg F PUnit :=
  Prog.lift (.enqueueDma aloc (.remote (Dev.tc (adev c k)) (arow k) (.dma (asndS k))) (.dma (arcvS k))
    (View.wordExact_bits rfl) (View.wordExact_bits rfl) ⟨⟨rfl, Or.inl rfl⟩, trivial⟩)

/-- The waits of one copy sent and one received. -/
def awaitP (k : Fin 7) : Pg F PUnit := do
  Prog.lift (.waitDma2 (asndS k) (arow k) aloc (View.wordExact_bits rfl) (View.wordExact_bits rfl))
  Prog.lift (.waitDma2 (arcvS k) aloc (arow k) (View.wordExact_bits rfl) (View.wordExact_bits rfl))

/-- A program for each of a list's members, in order. -/
def forP {T : Type} (f : T → Pg F PUnit) : List T → Pg F PUnit
  | [] => pure ⟨⟩
  | k :: l => do
    f k
    forP f l

/-- The seven partners. -/
def ks : List (Fin 7) := [0, 1, 2, 3, 4, 5, 6]

/-- The left and the right half of the output. -/
def orect (d : Bool) : Rect S512x2048 := match d with
  | false => Rect.unit (s := S512x2048) ![0, 1024] S512x1024.size inb_S512x2048_S512x1024_0_1024
  | true => Rect.unit (s := S512x2048) ![0, 0] S512x1024.size inb_S512x2048_S512x1024_0_0

/-- The exchange of the maxima and the output. -/
def tailP (M2 : Memref sig .tc .vmem S512x2048 .f32) (c : Dev nD) (yl yr : FVec F S512x1024 .f32) (sr : FVec F S512x1024 .f32) (vl : Vec F S1x512x1024 .bf16) : Pg F PUnit := do
  let _ ← Prog.lift (.load (Memref.whole cc0_scratch6) lrect.toLoadRect (View.loadsAt_vmem h_S8x128))
  Prog.lift (.store (Memref.whole cc0_scratch6) lrect (k0_pay82 yl sr vl) Finset.univ (View.stores_vmem_bits_univ h_S8x128 rfl) (.inl rfl))
  forP (asendP c) ks
  forP awaitP ks
  let z ← Prog.lift (.load (Memref.whole cc0_scratch7) (Rect.unit (s := S56x128) ![0, 0] S56x128.size inb_S56x128_S56x128_0_0).toLoadRect (View.loadsAt_vmem h_S56x128))
  let _ ← Prog.lift (.load M2 (orect true).toLoadRect (View.loadsAt_vmem h_S512x1024))
  Prog.lift (.store M2 (orect true) (k0_pay85 (k0_pay80 yl vl) (k0_pay81 yl sr vl) z) Finset.univ (View.stores_vmem_bits_univ h_S512x1024 rfl) (.inl rfl))
  let _ ← Prog.lift (.load M2 (orect false).toLoadRect (View.loadsAt_vmem h_S512x1024))
  Prog.lift (.store M2 (orect false) (k0_pay86 (k0_pay83 (k0_pay81 yl sr vl) z) (k0_pay84 sr (k0_pay81 yl sr vl) z)) Finset.univ (View.stores_vmem_bits_univ h_S512x1024 rfl) (.inl rfl))
  pure ⟨⟩

/-- The barrier with the two neighbours. -/
def barP (c : Dev nD) : Pg F PUnit := do
  semSignalWord (tgt true c) barrier0 1#32
  semSignalWord (tgt false c) barrier0 1#32
  semWaitWord barrier0 2#32

/-- Loading the second factor. -/
def loadW (M1 : Memref sig .tc .vmem S512x2048 .f32) : Pg F (Vec F S512x2048 .f32) :=
  Prog.lift (.load M1 (Rect.unit (s := S512x2048) ![0, 0] S512x2048.size inb_S512x2048_S512x2048_0_0).toLoadRect (View.loadsAt_vmem h_S512x2048))

/-- The body. -/
def bodyP (M0 : Memref sig .tc .vmem S4096x512 .f32) (M1 M2 : Memref sig .tc .vmem S512x2048 .f32) : Pg F PUnit := do
  let c : Dev nD ← Prog.lift .deviceId
  barP c
  let w ← loadW M1
  let w' ← loadW M1
  let xr ← loadX M0 c false 0
  let xl ← loadX M0 c true 0
  firstP c false 0 (firstV false 0 (k0_pay1 w) (k0_pay2 w w') xr)
  firstP c true 0 (firstV true 0 (k0_pay1 w) (k0_pay2 w w') xl)
  firstP c false 1 (firstV false 1 (k0_pay1 w) (k0_pay2 w w') xr)
  firstP c true 1 (firstV true 1 (k0_pay1 w) (k0_pay2 w w') xl)
  stepsP M0 c (k0_pay1 w) (k0_pay2 w w') [1, 2, 3, 4, 5, 6]
  let xr ← loadX M0 c false 7
  let xl ← loadX M0 c true 7
  waitM false 0 0
  waitM false 0 1
  let vr ← loadS false
  waitM true 0 0
  waitM true 0 1
  let vl ← loadS true
  tailP M2 c (partV true (k0_pay1 w) (k0_pay2 w w') xl) (partV false (k0_pay1 w) (k0_pay2 w w') xr)
    (k0_pay79 (partV false (k0_pay1 w) (k0_pay2 w w') xr) vr) vl

set_option maxRecDepth 65536 in
/-- The printed body is the program above. -/
theorem body_eq (M0 : Memref sig .tc .vmem S4096x512 .f32) (h0 : M0.IsWhole) (M1 : Memref sig .tc .vmem S512x2048 .f32) (h1 : M1.IsWhole)
    (M2 : Memref sig .tc .vmem S512x2048 .f32) (h2 : M2.IsWhole) :
    cc0_body (F := F) M0 h0 M1 h1 M2 h2 (Memref.whole cc0_scratch0) (Memref.isWhole_whole _) (Memref.whole cc0_scratch1) (Memref.isWhole_whole _)
      cc0_scratch2 cc0_scratch3 cc0_scratch4 cc0_scratch5 (Memref.whole cc0_scratch6) (Memref.isWhole_whole _) (Memref.whole cc0_scratch7) (Memref.isWhole_whole _)
      cc0_scratch8 cc0_scratch9 cc0_scratch10 cc0_scratch11 = bodyP M0 M1 M2 := by
  sl_kernel_rfl

end Cert.KernelIdeal.Ring

end
-- ==== Proof.Own.lean ====
/- Loads, stores and copies stated by what a memref's owner reads through it, and gluing a memref
   together from its parts. -/
module

public import proofs.«01_k».proof.Proof.Prog
public import Idealize.ShloMosaic.Lib.Pipeline.Launch
public import Idealize.ShloMosaic.Lib.Pipeline.Kit
public import Idealize.ShloMosaic.Lib.MemrefSat

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The protocol's ghost state: cells whose rounds have duties named by Booleans. -/
abbrev UB : Type := URounds (GSem nD τ sig) Bool
/-- The whole ghost state: the staging pipeline's and the protocol's. -/
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-- What device `c`'s program `p` establishes. -/
abbrev WP (c : Dev nD) {α : Type} (p : Pg F α) (Q : α → sProp 𝕄) : sProp 𝕄 :=
  wp frame (wpE (defs₀ (F := F)) 𝒱₀ (c : Thread nD τ) none) Set.univ p Q

section Access

variable (c : Dev nD) {sh : Shape} {e : EltTy} (m : Memref sig .tc .vmem sh e) {α : Type}

/-- A load of the rectangle a slice covers, by the slice's owner. -/
theorem load_slice (r : Rect sh) (hr : ∀ a, r.stride a = 1) (q : PosShare TreeShare) (X : r.shape.Idx → Elt F e)
    {hl : m.view.LoadsAt r.toLoadRect} (k : (r.shape.Idx → Elt F e) → Pg F α) (Q : α → sProp 𝕄) :
    ownsTc c (m.slice r hr) q X
      ⊢ iprop((ownsTc c (m.slice r hr) q X -∗ WP c (k X) Q) -∗ WP c (.op (.load m r.toLoadRect hl) k) Q) := by
  unfold ownsTc owns
  iintro ⟨%f, %hf, H⟩ Hk
  iapply (wp_load_rect 𝒱₀ (c : Thread nD τ) none Set.univ (m := m) (r := r) (hl := hl) (k := k) (S := (m.access r).set) (q := q) (f := f)
    (Finset.Subset.refl _)) $$ H
  iintro H
  rw [show ((m.access r : View sig .tc _ _ _).read (Elt F) f) = X from hf]
  iapply Hk
  iexists f
  isplitr; · ipureintro; exact hf
  iexact H

/-- A load of a rectangle, by the memref's owner. -/
theorem load_whole (r : Rect sh) (hr : ∀ a, r.stride a = 1) (q : PosShare TreeShare) (X : sh.Idx → Elt F e)
    {hl : m.view.LoadsAt r.toLoadRect} (k : (r.shape.Idx → Elt F e) → Pg F α) (Q : α → sProp 𝕄) :
    ownsTc c m q X
      ⊢ iprop((ownsTc c m q X -∗ WP c (k fun j => X (r.emb j)) Q) -∗ WP c (.op (.load m r.toLoadRect hl) k) Q) := by
  unfold ownsTc owns
  iintro ⟨%f, %hf, H⟩ Hk
  iapply (wp_load_rect 𝒱₀ (c : Thread nD τ) none Set.univ (m := m) (r := r) (hl := hl) (k := k) (S := m.view.set) (q := q) (f := f)
    (m.view.set_slice_subset r)) $$ H
  iintro H
  rw [show ((m.access r : View sig .tc _ _ _).read (Elt F) f) = fun j => X (r.emb j) from by rw [← hf]; rfl]
  iapply Hk
  iexists f
  isplitr; · ipureintro; exact hf
  iexact H

/-- A store to the rectangle a slice covers, by the slice's owner. -/
theorem store_slice (r : Rect sh) (hr : ∀ a, r.stride a = 1) (X w : r.shape.Idx → Elt F e)
    {hx : (m.access r).Stores Finset.univ} {hm : (Finset.univ : Finset r.shape.Idx) = Finset.univ ∨ ∀ a, r.stride a = 1}
    (k : PUnit → Pg F α) (Q : α → sProp 𝕄) :
    ownsTc c (m.slice r hr) fullShare X
      ⊢ iprop((ownsTc c (m.slice r hr) fullShare w -∗ WP c (k ⟨⟩) Q) -∗ WP c (.op (.store m r w Finset.univ hx hm) k) Q) := by
  unfold ownsTc owns
  iintro ⟨%f, %hf, H⟩ Hk
  iapply (wp_store 𝒱₀ (c : Thread nD τ) none Set.univ (m := m) (r := r) (w := w) (Mk := Finset.univ) (hx := hx) (hm := hm) (k := k)
    (S := (m.access r).set) (f := f) (Finset.Subset.refl _)) $$ H
  iintro H
  iapply Hk
  iexists ((m.access r : View sig .tc _ _ _).write (Elt F) f w Finset.univ)
  isplitr; · ipureintro; exact View.read_write_univ (v := (m.access r : View sig .tc _ _ _)) f w
  iexact H

end Access

/-- A copy between equally reshaped views carries what the source view reads to the destination view. -/
theorem read_landed {sp sp' : Space} {s s' : Shape} {e : EltTy} (v : View sig .tc sp s e) (w : View sig .tc sp' s e) (h : s'.numel = s.numel)
    (fs : v.ty.Contents (Elt F)) (fd : w.ty.Contents (Elt F)) :
    w.read (Elt F) ((w.reshape s' h).write (Elt F) fd ((v.reshape s' h).read (Elt F) fs) Finset.univ) = v.read (Elt F) fs := by
  funext x
  have h1 := congrFun (View.read_write_univ (v := w.reshape s' h) fd ((v.reshape s' h).read (Elt F) fs)) ((Shape.reshapeEquiv h).symm x)
  have e1 : ∀ g : w.ty.Contents (Elt F), (w.reshape s' h).read (Elt F) g ((Shape.reshapeEquiv h).symm x) = w.read (Elt F) g x := fun g => by
    show w.read (Elt F) g (Shape.reshapeEquiv h ((Shape.reshapeEquiv h).symm x)) = _
    rw [Equiv.apply_symm_apply]
  have e2 : (v.reshape s' h).read (Elt F) fs ((Shape.reshapeEquiv h).symm x) = v.read (Elt F) fs x := by
    show v.read (Elt F) fs (Shape.reshapeEquiv h ((Shape.reshapeEquiv h).symm x)) = _
    rw [Equiv.apply_symm_apply]
  rw [← e1, ← e2]
  exact h1

/-! ## Gluing -/

section Glue

variable {sh : Shape} {T β : Type} (r : T → Rect sh)

/-- The function on the whole shape that has given values on each of some disjoint rectangles. -/
def glue [Nonempty β] (G : ∀ t, (r t).shape.Idx → β) (x : sh.Idx) : β :=
  Classical.epsilon fun b => ∀ t i, (r t).emb i = x → G t i = b

theorem glue_emb [Nonempty β] (hd : ∀ t t', t ≠ t' → Disjoint (r t).set (r t').set) (G : ∀ t, (r t).shape.Idx → β) (t : T) (i : (r t).shape.Idx) :
    glue r G ((r t).emb i) = G t i := by
  have key : ∀ t' i', (r t').emb i' = (r t).emb i → G t' i' = G t i := by
    intro t' i' h
    by_cases ht : t' = t
    · subst ht
      rw [(r t').emb.injective h]
    · exfalso
      have h1 : (r t').emb i' ∈ (r t').set := (r t').map_emb_univ ▸ Finset.mem_map_of_mem _ (Finset.mem_univ i')
      have h2 : (r t).emb i ∈ (r t).set := (r t).map_emb_univ ▸ Finset.mem_map_of_mem _ (Finset.mem_univ i)
      exact Finset.disjoint_left.mp (hd t' t ht) h1 (h ▸ h2)
  have := Classical.epsilon_spec (p := fun b => ∀ t' i', (r t').emb i' = (r t).emb i → G t' i' = b) ⟨_, key⟩
  exact (this t i rfl).symm

/-- Owning each of some disjoint covering parts is owning the whole at the glued contents. -/
theorem owns_glue (c : Dev nD) {e : EltTy} (m : Memref sig .tc .vmem sh e) (q : PosShare TreeShare) [Fintype T] [DecidableEq T] (hr : ∀ t a, (r t).stride a = 1)
    (hd : ∀ t t', t ≠ t' → Disjoint (r t).set (r t').set) (hcov : (Finset.univ : Finset T).biUnion (fun t => (r t).set) = Finset.univ)
    (G : ∀ t, (r t).shape.Idx → Elt F e) :
    bigSep Finset.univ (fun t => ownsTc c (m.slice (r t) (hr t)) q (G t)) ⊢ (ownsTc c m q (glue r G) : sProp 𝕄) := by
  refine Entails.trans (Entails.of_eq ?_) (owns_of_rects (c : Thread nD τ) m q r hr hd hcov (glue r G))
  exact bigSep_congr fun t _ => by rw [show (fun j => glue r G ((r t).emb j)) = G t from funext fun j => glue_emb r hd G t j]

end Glue

end Cert.KernelIdeal.Ring

end
-- ==== Proof.Cells.lean ====
/- The protocol: the semaphore cells of a device, the rounds each of them goes through, what each
   round hands over, what every device owes at the start and in which order it pays. -/
module

public import proofs.«01_k».proof.Proof.Own

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The ring of devices -/

/-- The device `s` places after `c`. -/
def shift (c : Dev nD) (s : ℕ) : Dev nD := ⟨(c.val + s) % 8, Nat.mod_lt _ (by decide)⟩

theorem tgt_val (d : Bool) (c : Dev nD) : tgt d c = shift c (if d then 7 else 1) := by
  revert d c; decide +kernel

theorem adev_eq (c : Dev nD) (k : Fin 7) : adev c k = shift c (k.val + 1) := by
  revert c k; decide +kernel

theorem shift_shift (c : Dev nD) (s t : ℕ) : shift (shift c s) t = shift c (s + t) := by
  refine Fin.ext ?_
  show ((c.val + s) % 8 + t) % 8 = (c.val + (s + t)) % 8
  omega

theorem shift_eight (c : Dev nD) : shift c 8 = c := by
  refine Fin.ext ?_
  have := c.isLt
  show (c.val + 8) % 8 = c.val
  have h8 : c.val < 8 := this
  omega

theorem shift_zero (c : Dev nD) : shift c 0 = c := by
  refine Fin.ext ?_
  have h8 : c.val < 8 := c.isLt
  show (c.val + 0) % 8 = c.val
  omega

theorem tgt_src (d : Bool) (c : Dev nD) : tgt d (src d c) = c := by
  unfold src; rw [tgt_val, tgt_val, shift_shift]
  cases d <;> exact shift_eight c

theorem src_tgt (d : Bool) (c : Dev nD) : src d (tgt d c) = c := by
  unfold src; rw [tgt_val, tgt_val, shift_shift]
  cases d <;> exact shift_eight c

/-- Moving along a direction is a permutation of the devices. -/
def along (d : Bool) : Dev nD ≃ Dev nD := ⟨tgt d, src d, src_tgt d, tgt_src d⟩

/-- Moving `k + 1` places along the ring is one too. -/
def around (k : Fin 7) : Dev nD ≃ Dev nD :=
  ⟨fun c => shift c (k.val + 1), fun c => shift c (7 - k.val),
    fun c => by
      show shift (shift c (k.val + 1)) (7 - k.val) = c
      rw [shift_shift, show k.val + 1 + (7 - k.val) = 8 by omega, shift_eight],
    fun c => by
      show shift (shift c (7 - k.val)) (k.val + 1) = c
      rw [shift_shift, show 7 - k.val + (k.val + 1) = 8 by omega, shift_eight]⟩

/-! ## The cells -/

/-- A device's cells: the barrier's; per direction, slot and chunk the sending and the receiving one;
    per direction and chunk the one counting free slots; per partner the two of the maxima. -/
inductive Kd where
  | bar
  | snd (d : Bool) (p q : Fin 2)
  | rcv (d : Bool) (p q : Fin 2)
  | cap (d : Bool) (q : Fin 2)
  | asnd (k : Fin 7)
  | arcv (k : Fin 7)
deriving DecidableEq

/-- The cells as a sum. -/
abbrev KdSum : Type := Unit ⊕ ((Bool × Fin 2) × (Fin 2 ⊕ Fin 2 ⊕ Unit)) ⊕ (Fin 7 × Bool)

/-- The cells are that sum. -/
def kdEquiv : KdSum ≃ Kd where
  toFun x := match x with
    | .inl _ => .bar
    | .inr (.inl (dq, .inl p)) => .snd dq.1 p dq.2
    | .inr (.inl (dq, .inr (.inl p))) => .rcv dq.1 p dq.2
    | .inr (.inl (dq, .inr (.inr _))) => .cap dq.1 dq.2
    | .inr (.inr (k, b)) => if b then .arcv k else .asnd k
  invFun κ := match κ with
    | .bar => .inl ()
    | .snd d p q => .inr (.inl ((d, q), .inl p))
    | .rcv d p q => .inr (.inl ((d, q), .inr (.inl p)))
    | .cap d q => .inr (.inl ((d, q), .inr (.inr ())))
    | .asnd k => .inr (.inr (k, false))
    | .arcv k => .inr (.inr (k, true))
  left_inv x := by rcases x with _ | ⟨⟨d, q⟩, _ | _ | _⟩ | ⟨k, _ | _⟩ <;> rfl
  right_inv κ := by cases κ <;> rfl

instance : Fintype Kd := Fintype.ofEquiv KdSum kdEquiv

/-- The semaphore of a cell. -/
def csem : Kd → SemLoc sig
  | .bar => .reg barrier0
  | .snd d p q => .dma (sndS d p q)
  | .rcv d p q => .dma (rcvS d p q)
  | .cap d q => .reg (capS d q)
  | .asnd k => .dma (asndS k)
  | .arcv k => .dma (arcvS k)

theorem csem_injective : Function.Injective csem := by decide +kernel

/-- A device's cell. -/
abbrev cell (c : Dev nD) (κ : Kd) : GSem nD τ sig := ((c : Thread nD τ), csem κ)

/-- Which of the cells a semaphore is. -/
def kindOf (s : SemLoc sig) : Option Kd := open Classical in if h : ∃ κ, csem κ = s then some h.choose else none

theorem kindOf_csem (κ : Kd) : kindOf (csem κ) = some κ := by
  have h : ∃ κ', csem κ' = csem κ := ⟨κ, rfl⟩
  unfold kindOf
  rw [dif_pos h]
  exact congrArg some (csem_injective h.choose_spec)

theorem cell_inj {c c' : Dev nD} {κ κ' : Kd} (h : cell c κ = cell c' κ') : c = c' ∧ κ = κ' :=
  ⟨congrArg (fun g : GSem nD τ sig => g.1.1) h, csem_injective (congrArg Prod.snd h)⟩

/-! ## The schedule -/

/-- What one message counts for on its semaphores. -/
def NC : ℕ := (chunkM false 0 0).view.dmaCredit
/-- What one maximum counts for. -/
def NA : ℕ := aloc.view.dmaCredit

theorem chunkM_credit (d : Bool) (p q : Fin 2) : (chunkM d p q).view.dmaCredit = NC := by
  revert d p q; decide +kernel
theorem arow_credit (k : Fin 7) : (arow k).view.dmaCredit = NA := by
  revert k; decide +kernel

theorem NC_pos : 0 < NC := View.dmaCredit_pos _ (by decide)
theorem NA_pos : 0 < NA := View.dmaCredit_pos _ (by decide)

/-- How many rounds a cell has. -/
def rounds : Kd → ℕ
  | .bar => 1
  | .snd _ p _ => 4 - p.val
  | .rcv _ p _ => 3 + p.val
  | .cap _ _ => 6
  | .asnd _ => 1
  | .arcv _ => 1

/-- The duties of a round: two at the barrier, one elsewhere. -/
def kduties (κ : Kd) (r : ℕ) : Finset Bool := if r < rounds κ then (if κ = .bar then Finset.univ else {false}) else ∅

/-- What a duty counts for. -/
def kamount : Kd → ℕ
  | .bar => 1
  | .snd _ _ _ => NC
  | .rcv _ _ _ => NC
  | .cap _ _ => 1
  | .asnd _ => NA
  | .arcv _ => NA

theorem kamount_pos (κ : Kd) : 0 < kamount κ := by
  cases κ <;> first | exact Nat.one_pos | exact NC_pos | exact NA_pos

/-- The share of its own maximum that a device keeps after `k` copies have been started. -/
def rest (k : ℕ) : PosShare TreeShare := Nat.rec fullShare (fun _ q => q.right) k

/-- Contents for the messages (by sender, direction, chunk, step) and for the maxima. -/
structure Vals (F : FTy → Type) where
  V : Dev nD → Bool → Fin 2 → ℕ → (S1x512x512.Idx → Elt F .bf16)
  A : Dev nD → (S8x128.Idx → Elt F .f32)

variable (v : Vals F)

/-- A chunk's elements, whatever they hold. -/
def anyC (c : Dev nD) (d : Bool) (p q : Fin 2) : sProp 𝕄 := iprop(∃ X, ownsTc c (chunk d p q) fullShare X)
/-- Rows for a maximum, whatever they hold. -/
def anyA (c : Dev nD) (k : Fin 7) : sProp 𝕄 := iprop(∃ X, ownsTc c (arow k) fullShare X)

instance anyC_storable (c : Dev nD) (d : Bool) (p q : Fin 2) : BI.Storable (upEmb : UEmb _ 𝕄) (anyC (F := F) c d p q) := by
  unfold anyC; infer_instance
instance anyA_storable (c : Dev nD) (k : Fin 7) : BI.Storable (upEmb : UEmb _ 𝕄) (anyA (F := F) c k) := by
  unfold anyA; infer_instance

/-- What the messages of one stream carry besides: the step-`s` message of device `c` the rows, on
    the device `s` places after it, for the maxima from the devices not yet passed. -/
def carry (c : Dev nD) (d : Bool) (q : Fin 2) (s : ℕ) : sProp 𝕄 :=
  if d = true ∧ q = 0 then bigSep (Finset.univ.filter fun k : Fin 7 => s ≤ k.val) fun k => anyA (shift c s) k else iprop(emp)

instance carry_storable (c : Dev nD) (d : Bool) (q : Fin 2) (s : ℕ) : BI.Storable (upEmb : UEmb _ 𝕄) (carry (F := F) c d q s) := by
  unfold carry; split <;> infer_instance

/-- What a duty hands to device `c`, the cell's owner. -/
def kpay (c : Dev nD) : Kd → ℕ → Bool → sProp 𝕄
  | .bar, _, d => iprop(anyC (tgt d c) d 1 0 ∗ anyC (tgt d c) d 1 1)
  | .snd d p q, r, _ => ownsTc c (chunk d p q) fullShare (v.V c d q (2 * r + p.val))
  | .rcv d p q, r, _ => iprop(ownsTc c (chunk d p q) fullShare (v.V (src d c) d q (2 * r + 1 - p.val))
      ∗ reached ER (cell (src d c) (.cap d q)) (2 * r + 1 - p.val) ∗ carry (src d c) d q (2 * r + 1 - p.val))
  | .cap d q, r, _ => iprop(anyC (tgt d c) d (par r) q ∗ reached ER (cell (tgt d c) (.rcv d (par r) q)) ((r + 1) / 2))
  | .asnd k, _, _ => ownsTc c aloc (rest k.val).left (v.A c)
  | .arcv k, _, _ => ownsTc c (arow k) fullShare (v.A (shift c (7 - k.val)))

instance kpay_storable (c : Dev nD) (κ : Kd) (r : ℕ) (d : Bool) : BI.Storable (upEmb : UEmb _ 𝕄) (kpay v c κ r d) := by
  cases κ <;> unfold kpay <;> infer_instance

/-- The schedule of all cells. -/
def rd : Rounds.Schedule (GSem nD τ sig) Bool 𝕄 where
  duties g r := match kindOf g.2 with
    | some κ => if g.1.2 = .tc then kduties κ r else ∅
    | none => ∅
  amount g _ _ := match kindOf g.2 with
    | some κ => kamount κ
    | none => 1
  payload g r d := match kindOf g.2 with
    | some κ => kpay v g.1.1 κ r d
    | none => iprop(emp)
  amount_pos g _ _ _ := by
    show 0 < (match kindOf g.2 with | some κ => kamount κ | none => 1)
    cases kindOf g.2 with
    | some κ => exact kamount_pos κ
    | none => exact Nat.one_pos

instance rd_storable (g : GSem nD τ sig) (r : ℕ) (d : Bool) : BI.Storable (upEmb : UEmb _ 𝕄) ((rd v).payload g r d) := by
  show BI.Storable upEmb (match kindOf g.2 with | some κ => kpay v g.1.1 κ r d | none => iprop(emp))
  cases kindOf g.2 <;> infer_instance

theorem duties_eq (c : Dev nD) (κ : Kd) (r : ℕ) : (rd v).duties (cell c κ) r = kduties κ r := by
  show (match kindOf (csem κ) with | some κ' => if (Proc.tc : Proc τ) = Proc.tc then kduties κ' r else ∅ | none => ∅) = _
  rw [kindOf_csem]; exact if_pos rfl

theorem amount_eq (c : Dev nD) (κ : Kd) (r : ℕ) (d : Bool) : (rd v).amount (cell c κ) r d = kamount κ := by
  show (match kindOf (csem κ) with | some κ' => kamount κ' | none => 1) = _
  rw [kindOf_csem]

theorem payload_eq (c : Dev nD) (κ : Kd) (r : ℕ) (d : Bool) : (rd v).payload (cell c κ) r d = kpay v c κ r d := by
  show (match kindOf (csem κ) with | some κ' => kpay v c κ' r d | none => iprop(emp)) = _
  rw [kindOf_csem]

theorem duty_mem (c : Dev nD) (κ : Kd) {r : ℕ} (hr : r < rounds κ) : false ∈ (rd v).duties (cell c κ) r := by
  rw [duties_eq]; unfold kduties; rw [if_pos hr]
  split
  · exact Finset.mem_univ _
  · exact Finset.mem_singleton_self _

theorem duties_one (c : Dev nD) {κ : Kd} (hκ : κ ≠ .bar) {r : ℕ} (hr : r < rounds κ) : (rd v).duties (cell c κ) r = {false} := by
  rw [duties_eq]; unfold kduties; rw [if_pos hr, if_neg hκ]

theorem duties_bar (c : Dev nD) : (rd v).duties (cell c .bar) 0 = Finset.univ := by
  rw [duties_eq]; rfl

theorem duties_after (c : Dev nD) (κ : Kd) : ∀ r, rounds κ ≤ r → (rd v).duties (cell c κ) r = ∅ := by
  intro r hr; rw [duties_eq]; unfold kduties; rw [if_neg (by omega)]

theorem expect_one (c : Dev nD) {κ : Kd} (hκ : κ ≠ .bar) {r : ℕ} (hr : r < rounds κ) : (rd v).expect (cell c κ) r = kamount κ := by
  unfold Schedule.expect Schedule.amountOf; rw [duties_one v c hκ hr, Finset.sum_singleton, amount_eq]

theorem expect_bar (c : Dev nD) : (rd v).expect (cell c .bar) 0 = 2 := by
  unfold Schedule.expect Schedule.amountOf
  rw [duties_bar, Finset.sum_congr rfl fun d _ => amount_eq v c .bar 0 d]; rfl

theorem rest_one (c : Dev nD) {κ : Kd} (hκ : κ ≠ .bar) {r : ℕ} (hr : r < rounds κ) :
    bigSep ((rd v).duties (cell c κ) r \ ∅) (fun d => (rd v).payload (cell c κ) r d) = kpay v c κ r false := by
  rw [Finset.sdiff_empty, duties_one v c hκ hr, bigSep_singleton, payload_eq]

theorem rest_bar (c : Dev nD) :
    bigSep ((rd v).duties (cell c .bar) 0 \ ∅) (fun d => (rd v).payload (cell c .bar) 0 d) = iprop(kpay v c .bar 0 false ∗ kpay v c .bar 0 true) := by
  rw [Finset.sdiff_empty, duties_bar, bigSep_univ_eq_bigSepL [false, true] (by decide) (by decide), bigSepL_cons_cons, bigSepL_singleton,
    payload_eq, payload_eq]
  rfl

/-! ## The order of payments -/

/-- The place of message `s` in a device's order of payments. -/
def mIdx (d : Bool) (q : Fin 2) (s : ℕ) : ℕ := if s = 0 then 2 + 2 * q.val + d.toNat else 8 * s - 1 + 4 * q.val + 2 * d.toNat
/-- The place of giving a slot back after message `s` came. -/
def cIdx (d : Bool) (q : Fin 2) (s : ℕ) : ℕ := 6 + 8 * s + 4 * q.val + 2 * d.toNat

/-- The places at which a device's cell is paid. -/
def L (g : GSem nD τ sig) : Finset ℕ := if g.1.2 = .tc then Finset.range 100 else ∅
/-- The level of a payment is its place. -/
def lv (_ : GSem nD τ sig) (ι : ℕ) : ℕ := ι

theorem L_of_ne (g : GSem nD τ sig) (h : g.1.2 ≠ .tc) : L g = ∅ := if_neg h

/-- Every payment owed comes at place `n` or later. -/
def Above (n : ℕ) (O : CellTallies nD τ sig ℕ) : Prop := ∀ g u, 0 < O g u → g.1.2 = .tc ∧ n ≤ u ∧ u < 100

theorem above_zero (n : ℕ) : Above n 0 := fun g u h => absurd h (Nat.lt_irrefl 0)

theorem Above.add {n : ℕ} {O O' : CellTallies nD τ sig ℕ} (h : Above n O) (h' : Above n O') : Above n (O + O') := by
  intro g u hg
  rw [Pi.add_apply, Finsupp.add_apply] at hg
  rcases Nat.eq_zero_or_pos (O g u) with h0 | h0
  · exact h' g u (by omega)
  · exact h g u h0

theorem Above.mono {n n' : ℕ} {O : CellTallies nD τ sig ℕ} (h : Above n O) (hn : n' ≤ n) : Above n' O :=
  fun g u hg => ⟨(h g u hg).1, hn.trans (h g u hg).2.1, (h g u hg).2.2⟩

theorem above_tally {n : ℕ} (c : Dev nD) (κ : Kd) (ι k : ℕ) (h : n ≤ ι) (h' : ι < 100) : Above n (tallyAt (cell c κ) ι k) := by
  intro g u hg
  rw [tallyAt_apply] at hg
  by_cases hh : g = cell c κ ∧ u = ι
  · rw [hh.1, hh.2]; exact ⟨rfl, h, h'⟩
  · rw [if_neg hh] at hg; exact absurd hg (Nat.lt_irrefl 0)

theorem above_sum {n : ℕ} {T : Type} (s : Finset T) (f : T → CellTallies nD τ sig ℕ) (h : ∀ t ∈ s, Above n (f t)) : Above n (∑ t ∈ s, f t) := by
  classical
  induction s using Finset.induction_on with
  | empty => exact above_zero n
  | insert a s ha ih =>
    rw [Finset.sum_insert ha]
    exact (h a (Finset.mem_insert_self a s)).add (ih fun t ht => h t (Finset.mem_insert_of_mem ht))

/-- A device that owes only later payments may wait for one at place `n`. -/
theorem mayWait (c : Dev nD) (sm : SemLoc sig) (n : ℕ) (hn : n < 100) {O : CellTallies nD τ sig ℕ} (h : Above (n + 1) O) :
    (levAts L lv : sProp 𝕄) ⊢ MayWait (c : Thread nD τ) sm n O :=
  MayOwe.of_cut (L := L) (lev := lv) n
    (fun p hp => by rw [Finset.mem_singleton.mp hp]; unfold L; rw [if_pos rfl]; exact Finset.mem_range.mpr hn)
    (fun g u hg => by unfold L; rw [if_pos (h g u hg).1]; exact Finset.mem_range.mpr (h g u hg).2.2)
    (fun p hp => by rw [Finset.mem_singleton.mp hp]; exact Nat.le_refl _)
    (fun g u hg => Nat.lt_of_succ_le (h g u hg).2.1)

/-! ## What every device can refer to -/

/-- The invariants of all cells under their names, and that each has reached its first round. -/
def records (K : Dev nD × Kd → ℕ) : sProp 𝕄 :=
  iprop((bigSep Finset.univ fun x : Dev nD × Kd => cellInv ER (rd v) (K x) (cell x.1 x.2))
    ∗ (bigSep Finset.univ fun x : Dev nD × Kd => reached ER (cell x.1 x.2) 0) ∗ levAts L lv)

instance records_persistent (K : Dev nD × Kd → ℕ) : BI.Persistent (records v K) := by unfold records; infer_instance

theorem records_inv (K : Dev nD × Kd → ℕ) (c : Dev nD) (κ : Kd) : records v K ⊢ cellInv ER (rd v) (K (c, κ)) (cell c κ) := by
  unfold records
  iintro ⟨H, -, -⟩
  iapply (show (bigSep Finset.univ fun x : Dev nD × Kd => (cellInv ER (rd v) (K x) (cell x.1 x.2) : sProp 𝕄)) ⊢ cellInv ER (rd v) (K (c, κ)) (cell c κ) from
    bigSep_elim (Finset.mem_univ (c, κ)))
  iexact H

theorem records_reached (K : Dev nD × Kd → ℕ) (c : Dev nD) (κ : Kd) : records v K ⊢ (reached ER (cell c κ) 0 : sProp 𝕄) := by
  unfold records
  iintro ⟨-, H, -⟩
  iapply (show (bigSep Finset.univ fun x : Dev nD × Kd => (reached ER (cell x.1 x.2) 0 : sProp 𝕄)) ⊢ reached ER (cell c κ) 0 from
    bigSep_elim (Finset.mem_univ (c, κ)))
  iexact H

theorem records_lev (K : Dev nD × Kd → ℕ) : records v K ⊢ (levAts L lv : sProp 𝕄) := by
  unfold records
  iintro ⟨-, -, H⟩
  iexact H

end Cert.KernelIdeal.Ring

end
-- ==== Proof.Hop.lean ====
/- One stream of partial sums, one column chunk: what a device holds of it between two hops, and
   what its first message, its hops and its last reception establish. -/
module

public import proofs.«01_k».proof.Proof.Cells

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (v : Vals F) (K : Dev nD × Kd → ℕ) (c : Dev nD)

/-- What a device owes, whatever it has waited for. -/
def Owes (c : Dev nD) (O : CellTallies nD τ sig ℕ) : sProp 𝕄 := iprop(∃ W, owes (c : Thread nD τ) O W)

/-- The owner's wait for a whole round of one of its cells with a single duty. -/
theorem wait_cell {α : Type} (κ : Kd) (hκ : κ ≠ .bar) {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (csem κ) (kamount κ) P)
    {r : ℕ} (hr : r < rounds κ) (ι : ℕ) (hι : ι < 100) {O : CellTallies nD τ sig ℕ} (hO : Above (ι + 1) O)
    (k : PUnit → Pg F α) (Q : α → sProp 𝕄) :
    iprop(records v K ∗ cred (tallyAt (cell c κ) ι (kamount κ)) ∗ Owes c O ∗ atPos ER (cell c κ) r ∅ 0)
      ⊢ iprop(((Owes c O ∗ atPos ER (cell c κ) (r + 1) ∅ 0 ∗ reached ER (cell c κ) (r + 1) ∗ kpay v c κ r false) -∗ WP c (k ⟨⟩) Q)
        -∗ WP c (.op w k) Q) := by
  unfold Owes
  iintro ⟨#HR, Hc, ⟨%W, HO⟩, Hat⟩ Hk
  iapply (Rounds.wp_wait_rest_token 𝒱₀ ER (rd v) (c : Thread nD τ) none (κ := K (c, κ)) hw (Set.mem_univ _) ι (O := O) (W := W) (R := r) (m := 0) (T := ∅)
      (by rw [expect_one v c hκ hr, Nat.zero_add])) $$ [Hc HO Hat]
  · isplitr; · iapply (records_inv v K c κ); iexact HR
    isplitl [Hc]; · iexact Hc
    isplitl [HO]; · iexact HO
    isplitr
    · iapply (mayWait (F := F) c (csem κ) ι hι hO); iapply (records_lev v K); iexact HR
    iexact Hat
  iintro ⟨HO, Hat, #Hr, Hpay⟩
  ihave Hpay := (Entails.of_eq (rest_one v c hκ hr)) $$ Hpay
  iapply Hk
  isplitl [HO]; · iexists _; iexact HO
  isplitl [Hat]; · iexact Hat
  isplitr; · iexact Hr
  iexact Hpay

/-! ## The first and the other messages -/

variable (d : Bool) (q : Fin 2)

theorem par_val (s : ℕ) : (par s).val = s % 2 := rfl
theorem par_two (s : ℕ) : par (s + 2) = par s := by rw [par_succ, par_succ, flip_flip]
theorem flip_par (s : ℕ) : flip (par s) = par (s + 1) := (par_succ s).symm
theorem flip_par_succ (s : ℕ) : flip (par (s + 1)) = par s := by rw [par_succ, flip_flip]

theorem snd_round {s : ℕ} (hs : s < 7) : s / 2 < rounds (.snd d (par s) q) := by
  show s / 2 < 4 - (par s).val; rw [par_val]; omega
theorem rcv_round {s : ℕ} (hs : s < 7) : s / 2 < rounds (.rcv d (par (s + 1)) q) := by
  show s / 2 < 3 + (par (s + 1)).val; rw [par_val]; omega

theorem pay_snd (s : ℕ) : kpay v c (.snd d (par s) q) (s / 2) false = ownsTc c (chunk d (par s) q) fullShare (v.V c d q s) := by
  show ownsTc c (chunk d (par s) q) fullShare (v.V c d q (2 * (s / 2) + (par s).val)) = _
  rw [par_val, show 2 * (s / 2) + s % 2 = s by omega]

theorem pay_rcv (s : ℕ) : kpay v c (.rcv d (par (s + 1)) q) (s / 2) false
    = iprop(ownsTc c (chunk d (par (s + 1)) q) fullShare (v.V (src d c) d q s) ∗ reached ER (cell (src d c) (.cap d q)) s ∗ carry (src d c) d q s) := by
  show iprop(ownsTc c (chunk d (par (s + 1)) q) fullShare (v.V (src d c) d q (2 * (s / 2) + 1 - (par (s + 1)).val))
      ∗ reached ER (cell (src d c) (.cap d q)) (2 * (s / 2) + 1 - (par (s + 1)).val) ∗ carry (src d c) d q (2 * (s / 2) + 1 - (par (s + 1)).val)) = _
  rw [par_val, show 2 * (s / 2) + 1 - (s + 1) % 2 = s by omega]

/-- A chunk as the copies name it: the same elements. -/
theorem chunkM_set (p : Fin 2) : (chunkM d p q).view.set = (chunk d p q).view.set := View.set_reshape (v := (chunk d p q).view) _

theorem chunk_out (p : Fin 2) (X : S1x512x512.Idx → Elt F .bf16) :
    (ownsTc c (chunk d p q) fullShare X : sProp 𝕄)
      ⊢ iprop(∃ f : Buf (Elt F) ((chunkM d p q).view.loc (c : Thread nD τ)), ⌜(chunk d p q).view.read (Elt F) f = X⌝
          ∗ ((chunkM d p q).view.loc (c : Thread nD τ) ↦[(chunkM d p q).view.set]{fullShare} f)) := by
  rw [chunkM_set]
  exact Entails.refl _

theorem chunk_in (p : Fin 2) (f : Buf (Elt F) ((chunkM d p q).view.loc (c : Thread nD τ))) (X : S1x512x512.Idx → Elt F .bf16)
    (h : (chunk d p q).view.read (Elt F) f = X) :
    ((chunkM d p q).view.loc (c : Thread nD τ) ↦[(chunkM d p q).view.set]{fullShare} f : sProp 𝕄) ⊢ ownsTc c (chunk d p q) fullShare X := by
  rw [chunkM_set, ← h]
  exact owns_intro (c : Thread nD τ) (chunk d p q) fullShare f

theorem chunk_landed (p p' : Fin 2) (c' : Dev nD) (fs : Buf (Elt F) ((chunkM d p q).view.loc (c : Thread nD τ)))
    (fd : Buf (Elt F) ((chunkM d p' q).view.loc (c' : Thread nD τ))) :
    (chunk d p' q).view.read (Elt F) ((chunkM d p' q).view.write (Elt F) fd ((chunkM d p q).view.read (Elt F) fs) Finset.univ)
      = (chunk d p q).view.read (Elt F) fs :=
  read_landed (chunk d p q).view (chunk d p' q).view (Shape.Squeezes.numel_eq squeezes_S1x512x512_S512x512) fs fd

theorem pay_snd' (s : ℕ) (fs : Buf (Elt F) ((chunkM d (par s) q).view.loc (c : Thread nD τ)))
    (hfs : (chunk d (par s) q).view.read (Elt F) fs = v.V c d q s) :
    ((chunkM d (par s) q).view.loc (c : Thread nD τ) ↦[(chunkM d (par s) q).view.set]{fullShare} fs)
      ⊢ (rd v).payload (cell c (.snd d (par s) q)) (s / 2) false := by
  rw [payload_eq, pay_snd]
  exact chunk_in c d q (par s) fs _ hfs

theorem pay_rcv' (s : ℕ) (fs : Buf (Elt F) ((chunkM d (par s) q).view.loc (c : Thread nD τ)))
    (hfs : (chunk d (par s) q).view.read (Elt F) fs = v.V c d q s)
    (fd : Buf (Elt F) ((chunkM d (par (s + 1)) q).view.loc (tgt d c : Thread nD τ))) :
    iprop(((chunkM d (par (s + 1)) q).view.loc (tgt d c : Thread nD τ) ↦[(chunkM d (par (s + 1)) q).view.set]{fullShare}
        ((chunkM d (par (s + 1)) q).view.write (Elt F) fd ((chunkM d (par s) q).view.read (Elt F) fs) Finset.univ))
        ∗ (carry c d q s ∗ reached ER (cell c (.cap d q)) s))
      ⊢ (rd v).payload (cell (tgt d c) (.rcv d (par (s + 1)) q)) (s / 2) false := by
  rw [payload_eq, pay_rcv, src_tgt]
  iintro ⟨H, Hcar, Hcap⟩
  isplitl [H]
  · iapply (chunk_in (tgt d c) d q (par (s + 1)) _ _ ((chunk_landed c d q (par s) (par (s + 1)) (tgt d c) fs fd).trans hfs))
    iexact H
  isplitl [Hcap]; · iexact Hcap
  iexact Hcar

/-- Sending the message of step `s`. -/
theorem send_msg {α : Type} {s : ℕ} (hs : s < 7) (O : CellTallies nD τ sig ℕ) (k : PUnit → Pg F α) (Q : α → sProp 𝕄) :
    iprop(records v K ∗ ownsTc c (chunk d (par s) q) fullShare (v.V c d q s) ∗ anyC (tgt d c) d (par (s + 1)) q ∗ carry c d q s
        ∗ reached ER (cell c (.cap d q)) s
        ∗ Owes c (O + tallyAt (cell (tgt d c) (.rcv d (par (s + 1)) q)) (mIdx d q s) NC)
        ∗ dutyTok ER (cell c (.snd d (par s) q)) (s / 2) false ∗ reached ER (cell c (.snd d (par s) q)) (s / 2)
        ∗ dutyTok ER (cell (tgt d c) (.rcv d (par (s + 1)) q)) (s / 2) false ∗ reached ER (cell (tgt d c) (.rcv d (par (s + 1)) q)) (s / 2))
      ⊢ iprop(((cred (tallyAt (cell c (.snd d (par s) q)) 0 NC) ∗ Owes c O) -∗ WP c (k ⟨⟩) Q)
        -∗ WP c (sendM c d (par s) q >>= k) Q) := by
  unfold sendM Owes anyC
  simp only [flip_par, Prog.lift, Prog.bind_op, Prog.bind_ret]
  iintro ⟨#HR, Hs, ⟨%Y, Hd⟩, Hcar, #Hcap, ⟨%W, HO⟩, HtS, #HrS, HtR, #HrR⟩ Hk
  ihave Hs := (chunk_out c d q (par s) (v.V c d q s)) $$ Hs
  icases Hs with ⟨%fs, %hfs, Hs⟩
  ihave Hd := (chunk_out (tgt d c) d q (par (s + 1)) Y) $$ Hd
  icases Hd with ⟨%fd, %hfd, Hd⟩
  iapply (Rounds.wp_send_pointsTo_with 𝒱₀ ER (rd v) (c : Thread nD τ) none (c' := (tgt d c : Thread nD τ))
    (src := chunkM d (par s) q) (dst := chunkM d (par (s + 1)) q) (sS := .dma (sndS d (par s) q)) (sem := .dma (rcvS d (par (s + 1)) q))
    (κ₁ := K (c, .snd d (par s) q)) (κ₂ := K (tgt d c, .rcv d (par (s + 1)) q))
    (q := fullShare) (fs := fs) (fd := fd) (F := iprop(carry c d q s ∗ reached ER (cell c (.cap d q)) s)) (r₁ := s / 2) (r₂ := s / 2) (d₁ := false) (d₂ := false)
    (duty_mem v c (.snd d (par s) q) (snd_round d q hs)) (duty_mem v (tgt d c) (.rcv d (par (s + 1)) q) (rcv_round d q hs))
    (mIdx d q s) 0 NC (chunkM_credit d (par (s + 1)) q) (amount_eq v c (.snd d (par s) q) (s / 2) false)
    (amount_eq v (tgt d c) (.rcv d (par (s + 1)) q) (s / 2) false) O rfl (W := W)
    (pay_snd' v c d q s fs hfs) (pay_rcv' v c d q s fs hfs fd)) $$ [Hs Hd Hcar HO HtS HtR]
  · isplitr; · iapply (records_inv v K c (.snd d (par s) q)); iexact HR
    isplitr; · iapply (records_inv v K (tgt d c) (.rcv d (par (s + 1)) q)); iexact HR
    isplitl [Hs]; · iexact Hs
    isplitl [Hd Hcar]
    · isplitl [Hd]; · iexact Hd
      isplitl [Hcar]; · iexact Hcar
      iexact Hcap
    isplitl [HO]; · iexact HO
    isplitl [HtS]; · iexact HtS
    isplitr; · iexact HrS
    isplitl [HtR]; · iexact HtR
    iexact HrR
  iintro ⟨Hcr, HO⟩
  iapply Hk
  isplitl [Hcr]; · iexact Hcr
  iexists W; iexact HO

end Cert.KernelIdeal.Ring

end
-- ==== Proof.Stream.lean ====
/- One stream's column chunk on one device: its state between hops, the hop, the last reception. -/
module

public import proofs.«01_k».proof.Proof.Hop

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (v : Vals F) (K : Dev nD × Kd → ℕ) (c : Dev nD)

variable (d : Bool) (q : Fin 2)

/-- What the hop after message `t` uses up: the payments it makes, the credits it waits with. -/
def hopRes (t : ℕ) : sProp 𝕄 :=
  iprop(dutyTok ER (cell (src d c) (.cap d q)) t false ∗ cred (tallyAt (cell c (.cap d q)) (cIdx d q t) 1)
    ∗ dutyTok ER (cell c (.snd d (par (t + 1)) q)) ((t + 1) / 2) false ∗ dutyTok ER (cell (tgt d c) (.rcv d (par t) q)) ((t + 1) / 2) false
    ∗ cred (tallyAt (cell c (.rcv d (par t) q)) (mIdx d q (t + 1)) NC))

/-- The rows for maxima that have come with the first `t` messages. -/
def kept (t : ℕ) : sProp 𝕄 :=
  if d = true ∧ q = 0 then bigSep (Finset.univ.filter fun k : Fin 7 => k.val < t) fun k => anyA (shift c (k.val + 1)) k else iprop(emp)

/-- The positions in the four message cells after `t` messages have been waited for. -/
def poss (t : ℕ) : sProp 𝕄 :=
  iprop(atPos ER (cell c (.snd d (par t) q)) (t / 2) ∅ 0 ∗ atPos ER (cell c (.snd d (par (t + 1)) q)) ((t + 1) / 2) ∅ 0
    ∗ atPos ER (cell c (.rcv d (par (t + 1)) q)) (t / 2) ∅ 0 ∗ atPos ER (cell c (.rcv d (par t) q)) ((t + 1) / 2) ∅ 0)

/-- The stream on device `c` with the messages up to `t` sent and those before `t` passed on. -/
def Str (t : ℕ) : sProp 𝕄 :=
  iprop(poss c d q t ∗ atPos ER (cell c (.cap d q)) t ∅ 0
    ∗ reached ER (cell c (.snd d (par (t + 1)) q)) ((t + 1) / 2)
    ∗ reached ER (cell c (.rcv d (par t) q)) ((t + 1) / 2)
    ∗ cred (tallyAt (cell c (.snd d (par t) q)) 0 NC)
    ∗ cred (tallyAt (cell c (.rcv d (par (t + 1)) q)) (mIdx d q t) NC)
    ∗ bigSep (Finset.Ico t 6) (hopRes c d q) ∗ kept c d q t)

/-- What the hop after message `t` still has to pay. -/
def hopO (t : ℕ) : CellTallies nD τ sig ℕ :=
  tallyAt (cell (tgt d c) (.rcv d (par t) q)) (mIdx d q (t + 1)) NC + tallyAt (cell (src d c) (.cap d q)) (cIdx d q t) 1

theorem cIdx_lt {t : ℕ} (ht : t < 6) : cIdx d q t + 1 < 54 := by
  unfold cIdx; have := q.isLt; cases d <;> simp only [Bool.toNat_true, Bool.toNat_false] <;> omega
theorem mIdx_succ (t : ℕ) : mIdx d q (t + 1) = cIdx d q t + 1 := by
  unfold mIdx cIdx; rw [if_neg (by omega)]; omega
theorem mIdx_lt (t : ℕ) : mIdx d q t < cIdx d q t := by
  unfold mIdx cIdx; have := q.isLt; split <;> cases d <;> simp only [Bool.toNat_true, Bool.toNat_false] <;> omega

theorem above_hopO {t : ℕ} (ht : t < 6) : Above (cIdx d q t) (hopO c d q t) := by
  unfold hopO
  have := cIdx_lt d q ht
  refine (above_tally _ _ _ _ ?_ ?_).add (above_tally _ _ _ _ ?_ ?_) <;> (try rw [mIdx_succ]) <;> omega

theorem pay_cap (t : ℕ) : kpay v c (.cap d q) t false
    = iprop(anyC (tgt d c) d (par t) q ∗ reached ER (cell (tgt d c) (.rcv d (par t) q)) ((t + 1) / 2)) := rfl

/-- Of the rows that came with message `t` those for the device that sent the whole bundle stay. -/
theorem carry_split {t : ℕ} (ht : t < 7) :
    iprop(carry (src d c) d q t ∗ kept c d q t) ⊢ (iprop(carry c d q (t + 1) ∗ kept c d q (t + 1)) : sProp 𝕄) := by
  unfold carry kept
  by_cases h : d = true ∧ q = 0
  · rw [if_pos h, if_pos h, if_pos h, if_pos h]
    have hs : shift (src d c) t = shift c (t + 1) := by
      rw [h.1]; unfold src; rw [tgt_val, shift_shift, Nat.add_comm]; rfl
    rw [hs]
    have e1 : (Finset.univ.filter fun k : Fin 7 => t ≤ k.val) = insert (⟨t, ht⟩ : Fin 7) (Finset.univ.filter fun k : Fin 7 => t + 1 ≤ k.val) := by
      ext k; simp only [Finset.mem_filter, Finset.mem_univ, true_and, Finset.mem_insert, Fin.ext_iff]; omega
    have e2 : (Finset.univ.filter fun k : Fin 7 => k.val < t + 1) = insert (⟨t, ht⟩ : Fin 7) (Finset.univ.filter fun k : Fin 7 => k.val < t) := by
      ext k; simp only [Finset.mem_filter, Finset.mem_univ, true_and, Finset.mem_insert, Fin.ext_iff]; omega
    rw [e1, e2, bigSep_insert (by simp), bigSep_insert (by simp)]
    refine (show iprop((_ ∗ _) ∗ _) ⊢ iprop(_ ∗ _ ∗ _) from ?_)
    iintro ⟨⟨H1, H2⟩, H3⟩
    isplitl [H2]; · iexact H2
    isplitl [H1]; · iexact H1
    iexact H3
  · rw [if_neg h, if_neg h, if_neg h, if_neg h]

theorem carry_end : (carry c d q 7 : sProp 𝕄) ⊢ emp := by
  unfold carry
  split
  · rw [show (Finset.univ.filter fun k : Fin 7 => 7 ≤ k.val) = ∅ by decide, bigSep_empty]; exact Entails.refl _
  · exact Entails.refl _

/-- The two waits for message `t`: the own copy of it done, the neighbour's arrived. -/
theorem wait_msg {α : Type} {t : ℕ} (ht : t < 7) {O : CellTallies nD τ sig ℕ} (hO : Above (mIdx d q t + 1) O) (k : PUnit → Pg F α) (Q : α → sProp 𝕄) :
    iprop(records v K ∗ poss c d q t ∗ cred (tallyAt (cell c (.snd d (par t) q)) 0 NC) ∗ cred (tallyAt (cell c (.rcv d (par (t + 1)) q)) (mIdx d q t) NC)
        ∗ Owes c O)
      ⊢ iprop(((poss c d q (t + 1) ∗ reached ER (cell c (.snd d (par t) q)) ((t + 2) / 2) ∗ reached ER (cell c (.rcv d (par (t + 1)) q)) ((t + 2) / 2)
            ∗ ownsTc c (chunk d (par t) q) fullShare (v.V c d q t)
            ∗ ownsTc c (chunk d (par (t + 1)) q) fullShare (v.V (src d c) d q t) ∗ reached ER (cell (src d c) (.cap d q)) t ∗ carry (src d c) d q t
            ∗ Owes c O) -∗ WP c (k ⟨⟩) Q)
        -∗ WP c (waitM d (par t) q >>= k) Q) := by
  have hidx := mIdx_lt d q t
  have e2 : (t + 2) / 2 = t / 2 + 1 := by omega
  have hmax : mIdx d q t < 100 := by
    unfold mIdx; have := q.isLt; split <;> cases d <;> simp only [Bool.toNat_true, Bool.toNat_false] <;> omega
  unfold waitM poss
  simp only [flip_par, Prog.lift, Prog.bind_op, Prog.bind_ret, par_two, show t + 1 + 1 = t + 2 from rfl, e2]
  iintro ⟨#HR, ⟨Hs0, Hs1, Hr1, Hr0⟩, Hcs, Hcr, HO⟩ Hk
  iapply (wait_cell v K c (.snd d (par t) q) (by simp) (fun P => by
      rw [wpE_waitDma2_eq 𝒱₀ (c : Thread nD τ) none Set.univ, chunkM_credit]; rfl) (snd_round d q ht) 0 (by decide)
      (O := O) (hO.mono (by omega))) $$ [Hcs HO Hs0]
  · isplitr; · iexact HR
    isplitl [Hcs]; · iexact Hcs
    isplitl [HO]; · iexact HO
    iexact Hs0
  iintro ⟨HO, Hs0, #Hrs, Hpay⟩
  iapply (wait_cell v K c (.rcv d (par (t + 1)) q) (by simp) (fun P => by
      rw [wpE_waitDma2_eq 𝒱₀ (c : Thread nD τ) none Set.univ, chunkM_credit]; rfl) (rcv_round d q ht) (mIdx d q t) hmax
      (O := O) (hO.mono (by omega))) $$ [Hcr HO Hr1]
  · isplitr; · iexact HR
    isplitl [Hcr]; · iexact Hcr
    isplitl [HO]; · iexact HO
    iexact Hr1
  iintro ⟨HO, Hr1, #Hrr, Hpay'⟩
  ihave Hpay := (Entails.of_eq (pay_snd v c d q t)) $$ Hpay
  ihave Hpay' := (Entails.of_eq (pay_rcv v c d q t)) $$ Hpay'
  icases Hpay' with ⟨Hin, #Hcap, Hcar⟩
  iapply Hk
  isplitl [Hs0 Hs1 Hr0 Hr1]
  · isplitl [Hs1]; · iexact Hs1
    isplitl [Hs0]; · iexact Hs0
    isplitl [Hr0]; · iexact Hr0
    iexact Hr1
  isplitr; · iexact Hrs
  isplitr; · iexact Hrr
  isplitl [Hpay]; · iexact Hpay
  isplitl [Hin]; · iexact Hin
  isplitr; · iexact Hcap
  isplitl [Hcar]; · iexact Hcar
  iexact HO

/-- The first of the remaining hops. -/
theorem res_step {t : ℕ} (ht : t < 6) (Φ : ℕ → sProp 𝕄) :
    bigSep (Finset.Ico t 6) Φ = iprop(Φ t ∗ bigSep (Finset.Ico (t + 1) 6) Φ) := by
  rw [show Finset.Ico t 6 = insert t (Finset.Ico (t + 1) 6) from by
    ext x; simp only [Finset.mem_insert, Finset.mem_Ico]; omega, bigSep_insert (by simp)]
  rfl

/-- A load of a chunk and its going on. -/
theorem load_chunk {α : Type} (p : Fin 2) (X : S1x512x512.Idx → Elt F .bf16) (k : (S1x512x512.Idx → Elt F .bf16) → Pg F α) (Q : α → sProp 𝕄) :
    ownsTc c (chunk d p q) fullShare X
      ⊢ iprop((ownsTc c (chunk d p q) fullShare X -∗ WP c (k X) Q) -∗ WP c (loadC d p q >>= k) Q) := by
  unfold loadC
  simp only [Prog.lift, Prog.bind_op, Prog.bind_ret]
  exact load_slice c (cmem d) (crect p q) (fun _ => rfl) fullShare X k Q

/-- A store to a chunk and its going on. -/
theorem store_chunk {α : Type} (p : Fin 2) (X w : S1x512x512.Idx → Elt F .bf16) (k : PUnit → Pg F α) (Q : α → sProp 𝕄) :
    ownsTc c (chunk d p q) fullShare X
      ⊢ iprop((ownsTc c (chunk d p q) fullShare w -∗ WP c (k ⟨⟩) Q) -∗ WP c (storeC d p q w >>= k) Q) := by
  unfold storeC
  simp only [Prog.lift, Prog.bind_op, Prog.bind_ret]
  exact store_slice c (cmem d) (crect p q) (fun _ => rfl) X w k Q

/-- Giving the slot of message `t` back to the device it came from. -/
theorem give_back {α : Type} {t : ℕ} (ht : t < 6) (O : CellTallies nD τ sig ℕ) (k : PUnit → Pg F α) (Q : α → sProp 𝕄) :
    iprop(records v K ∗ Owes c (O + tallyAt (cell (src d c) (.cap d q)) (cIdx d q t) 1) ∗ dutyTok ER (cell (src d c) (.cap d q)) t false
        ∗ anyC c d (par t) q ∗ reached ER (cell c (.rcv d (par t) q)) ((t + 1) / 2) ∗ reached ER (cell (src d c) (.cap d q)) t)
      ⊢ iprop((Owes c O -∗ WP c (k ⟨⟩) Q) -∗ WP c (semSignalWord (src d c) (capS d q) 1#32 >>= k) Q) := by
  unfold semSignalWord Owes
  simp only [Prog.bind_op, Prog.bind_ret]
  iintro ⟨#HR, ⟨%W, HO⟩, Htok, Hany, #Hr, #Hcap⟩ Hk
  iapply (Rounds.wp_signal 𝒱₀ ER (rd v) (c : Thread nD τ) none (dst := (src d c : Thread nD τ)) (sem := capS d q) (κ := K (src d c, .cap d q)) (r := t)
      (d := false) (duty_mem v (src d c) (.cap d q) ht) ((amount_eq v (src d c) (.cap d q) t false).trans (show (1 : ℕ) = _ by decide)) (cIdx d q t) O rfl)
    $$ [HO Htok Hany]
  · isplitr; · iapply (records_inv v K (src d c) (.cap d q)); iexact HR
    isplitl [HO]; · iexact HO
    isplitl [Htok]; · iexact Htok
    isplitl [Hany]
    · iapply (show iprop(anyC c d (par t) q ∗ reached ER (cell c (.rcv d (par t) q)) ((t + 1) / 2))
        ⊢ (rd v).payload ((src d c : Thread nD τ), .reg (capS d q)) t false from by
          show _ ⊢ (rd v).payload (cell (src d c) (.cap d q)) t false
          rw [payload_eq, pay_cap, tgt_src])
      isplitl [Hany]; · iexact Hany
      iexact Hr
    iexact Hcap
  iintro HO
  iapply Hk
  iexists W; iexact HO

/-- Waiting until the next device has given back the slot that message `t + 1` goes to. -/
theorem wait_cap {α : Type} {t : ℕ} (ht : t < 6) {O : CellTallies nD τ sig ℕ} (hO : Above (cIdx d q t + 1) O) (k : PUnit → Pg F α) (Q : α → sProp 𝕄) :
    iprop(records v K ∗ cred (tallyAt (cell c (.cap d q)) (cIdx d q t) 1) ∗ Owes c O ∗ atPos ER (cell c (.cap d q)) t ∅ 0)
      ⊢ iprop(((Owes c O ∗ atPos ER (cell c (.cap d q)) (t + 1) ∅ 0 ∗ reached ER (cell c (.cap d q)) (t + 1)
            ∗ anyC (tgt d c) d (par t) q ∗ reached ER (cell (tgt d c) (.rcv d (par t) q)) ((t + 1) / 2)) -∗ WP c (k ⟨⟩) Q)
        -∗ WP c (semWaitWord (capS d q) 1#32 >>= k) Q) := by
  have hmax := cIdx_lt d q ht
  unfold semWaitWord
  simp only [Prog.bind_op, Prog.bind_ret]
  exact wait_cell v K c (.cap d q) (by simp) (fun P => wpE_semWait_eq 𝒱₀ (c : Thread nD τ) none Set.univ P) ht (cIdx d q t) (by omega) hO k Q

/-- One hop: message `t` is waited for, its slot given back, the own product added, message `t + 1` sent. -/
theorem hop {α : Type} {t : ℕ} (ht : t < 6) {O : CellTallies nD τ sig ℕ} (hO : Above (cIdx d q t + 2) O) (y : FVec F S512x1024 .f32)
    (hV : v.V c d q (t + 1) = addV q y (v.V (src d c) d q t)) (k : PUnit → Pg F α) (Q : α → sProp 𝕄) :
    iprop(records v K ∗ Str c d q t ∗ Owes c (O + hopO c d q t))
      ⊢ iprop(((Str c d q (t + 1) ∗ Owes c O) -∗ WP c (k ⟨⟩) Q) -∗ WP c (hopP c d (par (t + 1)) q y >>= k) Q) := by
  have hmax := cIdx_lt d q ht
  unfold hopP Str
  simp only [flip_par_succ, Prog.bind_assoc]
  rw [res_step ht]
  simp only [par_two, show t + 1 + 1 = t + 2 from rfl]
  iintro ⟨#HR, ⟨Hpos, Hcap, #Hrs, #Hrr, Hcs, Hcr, ⟨Hres, Hrest⟩, Hkept⟩, HO⟩ Hk
  ihave Hres := (Entails.of_eq (show hopRes (F := F) c d q t = iprop(dutyTok ER (cell (src d c) (.cap d q)) t false ∗ cred (tallyAt (cell c (.cap d q)) (cIdx d q t) 1)
    ∗ dutyTok ER (cell c (.snd d (par (t + 1)) q)) ((t + 1) / 2) false ∗ dutyTok ER (cell (tgt d c) (.rcv d (par t) q)) ((t + 1) / 2) false
    ∗ cred (tallyAt (cell c (.rcv d (par t) q)) (mIdx d q (t + 1)) NC)) from rfl)) $$ Hres
  icases Hres with ⟨HtC, HcC, HtS, HtR, HcR⟩
  -- the two waits
  iapply (wait_msg v K c d q (by omega) (O := O + hopO c d q t) (Above.mono ((hO.mono (by omega)).add (above_hopO c d q ht)) (mIdx_lt d q t))) $$ [Hpos Hcs Hcr HO]
  · isplitr; · iexact HR
    isplitl [Hpos]; · iexact Hpos
    isplitl [Hcs]; · iexact Hcs
    isplitl [Hcr]; · iexact Hcr
    iexact HO
  iintro ⟨Hpos, #Hrs', #Hrr', Hout, Hin, #HcapS, Hcar, HO⟩
  -- the slot given back
  unfold hopO
  rw [← add_assoc]
  iapply (give_back v K c d q ht) $$ [HO HtC Hout]
  · isplitr; · iexact HR
    isplitl [HO]; · iexact HO
    isplitl [HtC]; · iexact HtC
    isplitl [Hout]; · unfold anyC; iexists _; iexact Hout
    isplitr; · iexact Hrr
    iexact HcapS
  iintro HO
  -- the sum
  iapply (load_chunk c d q) $$ Hin; iintro Hin
  iapply (load_chunk c d q) $$ Hin; iintro Hin
  iapply (store_chunk c d q) $$ Hin; iintro Hin
  rw [← hV]
  -- the next device's slot
  iapply (wait_cap v K c d q ht (O := O + tallyAt (cell (tgt d c) (.rcv d (par t) q)) (mIdx d q (t + 1)) NC)
      ((hO.mono (by omega)).add (above_tally _ _ _ _ (by rw [mIdx_succ]) (by rw [mIdx_succ]; omega)))) $$ [HcC HO Hcap]
  · isplitr; · iexact HR
    isplitl [HcC]; · iexact HcC
    isplitl [HO]; · iexact HO
    iexact Hcap
  iintro ⟨HO, Hcap, #Hcap', Hany, #HrT⟩
  -- the message
  ihave Hcar := (carry_split c d q (by omega : t < 7)) $$ [Hcar Hkept]
  · isplitl [Hcar]; · iexact Hcar
    iexact Hkept
  icases Hcar with ⟨Hcar, Hkept⟩
  iapply (send_msg v K c d q (s := t + 1) (by omega) O) $$ [Hin Hany Hcar HO HtS HtR]
  · simp only [par_two, show t + 1 + 1 = t + 2 from rfl]
    isplitr; · iexact HR
    isplitl [Hin]; · iexact Hin
    isplitl [Hany]; · iexact Hany
    isplitl [Hcar]; · iexact Hcar
    isplitr; · iexact Hcap'
    isplitl [HO]; · iexact HO
    isplitl [HtS]; · iexact HtS
    isplitr; · iexact Hrs
    isplitl [HtR]; · iexact HtR
    iexact HrT
  iintro ⟨Hcs, HO⟩
  iapply Hk
  isplitl [Hpos Hcap Hcs HcR Hrest Hkept]
  · isplitl [Hpos]; · iexact Hpos
    isplitl [Hcap]; · iexact Hcap
    isplitr; · iexact Hrs'
    isplitr; · iexact Hrr'
    isplitl [Hcs]; · iexact Hcs
    isplitl [HcR]; · iexact HcR
    isplitl [Hrest]; · iexact Hrest
    iexact Hkept
  iexact HO

end Cert.KernelIdeal.Ring

end
-- ==== Proof.Ends.lean ====
/- The first message and the last reception of a stream, and the slot read whole at the end. -/
module

public import proofs.«01_k».proof.Proof.Stream

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (v : Vals F) (K : Dev nD × Kd → ℕ) (c : Dev nD)

variable (d : Bool) (q : Fin 2)

/-- What a stream starts from on device `c`. -/
def Start : sProp 𝕄 :=
  iprop(poss c d q 0 ∗ atPos ER (cell c (.cap d q)) 0 ∅ 0 ∗ bigSep (Finset.Ico 0 6) (hopRes c d q)
    ∗ dutyTok ER (cell c (.snd d (par 0) q)) 0 false ∗ dutyTok ER (cell (tgt d c) (.rcv d (par 1) q)) 0 false
    ∗ cred (tallyAt (cell c (.rcv d (par 1) q)) (mIdx d q 0) NC) ∗ anyC c d (par 0) q ∗ carry c d q 0)

/-- What a stream still has to pay at the start. -/
def firstO : CellTallies nD τ sig ℕ := tallyAt (cell (tgt d c) (.rcv d (par 1) q)) (mIdx d q 0) NC

theorem kept_zero : (emp : sProp 𝕄) ⊢ kept c d q 0 := by
  unfold kept
  split
  · rw [show (Finset.univ.filter fun k : Fin 7 => k.val < 0) = ∅ by decide, bigSep_empty]; exact Entails.refl _
  · exact Entails.refl _

/-- The first message. -/
theorem first {α : Type} (O : CellTallies nD τ sig ℕ) (w : S1x512x512.Idx → Elt F .bf16) (hV : v.V c d q 0 = w) (k : PUnit → Pg F α) (Q : α → sProp 𝕄) :
    iprop(records v K ∗ Start c d q ∗ anyC (tgt d c) d 1 q ∗ Owes c (O + firstO c d q))
      ⊢ iprop(((Str c d q 0 ∗ Owes c O) -∗ WP c (k ⟨⟩) Q) -∗ WP c (firstP c d q w >>= k) Q) := by
  subst hV
  unfold firstP Start Str firstO
  simp only [Prog.bind_assoc]
  iintro ⟨#HR, ⟨Hpos, Hcap, Hres, HtS, HtR, Hcr, Hown, Hcar⟩, Hany, HO⟩ Hk
  unfold anyC
  icases Hown with ⟨%X, Hown⟩
  iapply (load_chunk c d q (par 0)) $$ Hown; iintro Hown
  iapply (store_chunk c d q (par 0)) $$ Hown; iintro Hown
  iapply (send_msg v K c d q (s := 0) (by omega) O) $$ [Hown Hany Hcar HO HtS HtR]
  · isplitr; · iexact HR
    isplitl [Hown]; · iexact Hown
    isplitl [Hany]; · unfold anyC; iexact Hany
    isplitl [Hcar]; · iexact Hcar
    isplitr; · iapply (records_reached v K c (.cap d q)); iexact HR
    isplitl [HO]; · iexact HO
    isplitl [HtS]; · iexact HtS
    isplitr; · iapply (records_reached v K c (.snd d (par 0) q)); iexact HR
    isplitl [HtR]; · iexact HtR
    iapply (records_reached v K (tgt d c) (.rcv d (par 1) q)); iexact HR
  iintro ⟨Hcs, HO⟩
  iapply Hk
  isplitl [Hpos Hcap Hcs Hcr Hres]
  · isplitl [Hpos]; · iexact Hpos
    isplitl [Hcap]; · iexact Hcap
    isplitr; · iapply (records_reached v K c (.snd d (par 1) q)); iexact HR
    isplitr; · iapply (records_reached v K c (.rcv d (par 0) q)); iexact HR
    isplitl [Hcs]; · iexact Hcs
    isplitl [Hcr]; · iexact Hcr
    isplitl [Hres]; · iexact Hres
    iapply (kept_zero c d q); iempintro
  iexact HO

/-- What is left of a stream after its last reception. -/
def Done : sProp 𝕄 :=
  iprop(poss c d q 7 ∗ atPos ER (cell c (.cap d q)) 6 ∅ 0 ∗ kept c d q 7
    ∗ ownsTc c (chunk d 0 q) fullShare (v.V c d q 6) ∗ ownsTc c (chunk d 1 q) fullShare (v.V (src d c) d q 6))

/-- The last reception. -/
theorem last {α : Type} {O : CellTallies nD τ sig ℕ} (hO : Above 54 O) (k : PUnit → Pg F α) (Q : α → sProp 𝕄) :
    iprop(records v K ∗ Str c d q 6 ∗ Owes c O)
      ⊢ iprop(((Done v c d q ∗ Owes c O) -∗ WP c (k ⟨⟩) Q) -∗ WP c (waitM d 0 q >>= k) Q) := by
  have hmax : mIdx d q 6 + 1 ≤ 54 := by
    rw [mIdx_succ d q 5]; unfold cIdx; have := q.isLt; cases d <;> simp only [Bool.toNat_true, Bool.toNat_false] <;> omega
  unfold Str Done
  iintro ⟨#HR, ⟨Hpos, Hcap, -, -, Hcs, Hcr, -, Hkept⟩, HO⟩ Hk
  iapply (wait_msg v K c d q (t := 6) (by omega) (O := O) (hO.mono hmax)) $$ [Hpos Hcs Hcr HO]
  · isplitr; · iexact HR
    isplitl [Hpos]; · iexact Hpos
    isplitl [Hcs]; · iexact Hcs
    isplitl [Hcr]; · iexact Hcr
    iexact HO
  iintro ⟨Hpos, -, -, Hout, Hin, -, Hcar, HO⟩
  ihave Hcar := (carry_split c d q (by omega : 6 < 7)) $$ [Hcar Hkept]
  · isplitl [Hcar]; · iexact Hcar
    iexact Hkept
  icases Hcar with ⟨-, Hkept⟩
  iapply Hk
  isplitl [Hpos Hcap Hkept Hout Hin]
  · isplitl [Hpos]; · iexact Hpos
    isplitl [Hcap]; · iexact Hcap
    isplitl [Hkept]; · iexact Hkept
    isplitl [Hout]; · iexact Hout
    iexact Hin
  iexact HO

/-! ## The buffer as a whole -/

theorem crect_disjoint (t t' : Fin 2 × Fin 2) (h : t ≠ t') : Disjoint (crect t.1 t.2).set (crect t'.1 t'.2).set := by
  obtain ⟨p, q⟩ := t
  obtain ⟨p', q'⟩ := t'
  unfold crect
  by_cases hp : p = p'
  · have hq : q ≠ q' := fun e => h (by rw [hp, e])
    refine Rect.unit_disjoint (2 : Fin 3) ?_
    have : q.val ≠ q'.val := fun e => hq (Fin.ext e)
    show 512 * q.val + 512 ≤ 512 * q'.val ∨ 512 * q'.val + 512 ≤ 512 * q.val
    omega
  · refine Rect.unit_disjoint (0 : Fin 3) ?_
    have : p.val ≠ p'.val := fun e => hp (Fin.ext e)
    show p.val + 1 ≤ p'.val ∨ p'.val + 1 ≤ p.val
    omega

theorem crect_cover : (Finset.univ : Finset (Fin 2 × Fin 2)).biUnion (fun t => (crect t.1 t.2).set) = Finset.univ := by
  refine Finset.eq_univ_iff_forall.mpr fun x => Finset.mem_biUnion.mpr ?_
  have h0 : (x 0).val < 2 := (x 0).isLt
  have h1 : (x 1).val < 512 := (x 1).isLt
  have h2 : (x 2).val < 1024 := (x 2).isLt
  refine ⟨(⟨(x 0).val, h0⟩, ⟨(x 2).val / 512, by omega⟩), Finset.mem_univ _, ?_⟩
  unfold crect
  rw [Rect.mem_set_unit]
  intro a
  match a with
  | 0 => exact ⟨Nat.le_refl _, Nat.lt_succ_self _⟩
  | 1 => exact ⟨Nat.zero_le _, by show (x 1).val < 0 + 512; omega⟩
  | 2 =>
    show 512 * ((x 2).val / 512) ≤ (x 2).val ∧ (x 2).val < 512 * ((x 2).val / 512) + 512
    omega

/-- What a direction's buffer holds at the end. -/
def endV (x : S2x512x1024.Idx) : Elt F .bf16 :=
  haveI : Nonempty (Elt F .bf16) := Elt.nonempty F _
  glue (fun t : Fin 2 × Fin 2 => crect t.1 t.2) (fun t => if t.1 = 0 then v.V c d t.2 6 else v.V (src d c) d t.2 6) x

/-- The four chunks of the buffer at the end. -/
theorem end_join :
    iprop((ownsTc c (chunk d 0 0) fullShare (v.V c d 0 6) ∗ ownsTc c (chunk d 1 0) fullShare (v.V (src d c) d 0 6))
        ∗ (ownsTc c (chunk d 0 1) fullShare (v.V c d 1 6) ∗ ownsTc c (chunk d 1 1) fullShare (v.V (src d c) d 1 6)))
      ⊢ (ownsTc c (cmem d) fullShare (endV v c d) : sProp 𝕄) := by
  haveI : Nonempty (Elt F .bf16) := Elt.nonempty F _
  refine BIBase.Entails.trans ?_ (owns_glue (fun t : Fin 2 × Fin 2 => crect t.1 t.2) c (cmem d) fullShare (fun _ _ => rfl) crect_disjoint crect_cover
    (fun t => if t.1 = 0 then v.V c d t.2 6 else v.V (src d c) d t.2 6))
  rw [bigSep_univ_eq_bigSepL [((0 : Fin 2), (0 : Fin 2)), (1, 0), (0, 1), (1, 1)] (by decide) (by decide), bigSepL_cons_cons, bigSepL_cons_cons,
    bigSepL_cons_cons, bigSepL_singleton]
  refine (show iprop((_ ∗ _) ∗ (_ ∗ _)) ⊢ iprop(_ ∗ _ ∗ _ ∗ _) from ?_)
  iintro ⟨⟨H1, H2⟩, H3, H4⟩
  isplitl [H1]; · iexact H1
  isplitl [H2]; · iexact H2
  isplitl [H3]; · iexact H3
  iexact H4

/-- The rectangle of the last slot. -/
def srect : Rect S2x512x1024 := Rect.unit (s := S2x512x1024) ![1, 0, 0] S1x512x1024.size inb_S2x512x1024_S1x512x1024_1_0_0

/-- The last slot as it is read. -/
def vS (j : S1x512x1024.Idx) : Elt F .bf16 := endV v c d (srect.emb j)

theorem load_last {α : Type} (k : (S1x512x1024.Idx → Elt F .bf16) → Pg F α) (Q : α → sProp 𝕄) :
    ownsTc c (cmem d) fullShare (endV v c d)
      ⊢ iprop((ownsTc c (cmem d) fullShare (endV v c d) -∗ WP c (k (vS v c d)) Q) -∗ WP c (loadS d >>= k) Q) := by
  unfold loadS
  simp only [Prog.lift, Prog.bind_op, Prog.bind_ret]
  exact load_whole c (cmem d) srect (fun _ => rfl) fullShare (endV v c d) k Q

end Cert.KernelIdeal.Ring

end
-- ==== Proof.Tail.lean ====
/- The exchange of the maxima and the two output halves. -/
module

public import proofs.«01_k».proof.Proof.Ends

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (v : Vals F) (K : Dev nD × Kd → ℕ) (c : Dev nD)

/-! ## Copies to the seven others -/

/-- The partners from `n` on. -/
def up (n : ℕ) : Finset (Fin 7) := Finset.univ.filter fun k : Fin 7 => n ≤ k.val
/-- The partners before `n`. -/
def lo (n : ℕ) : Finset (Fin 7) := Finset.univ.filter fun k : Fin 7 => k.val < n

theorem up_step (k : Fin 7) : up k.val = insert k (up (k.val + 1)) := by revert k; decide
theorem lo_step (k : Fin 7) : lo (k.val + 1) = insert k (lo k.val) := by revert k; decide
theorem up_not_mem (k : Fin 7) : k ∉ up (k.val + 1) := by revert k; decide
theorem lo_not_mem (k : Fin 7) : k ∉ lo k.val := by revert k; decide
theorem up_zero : up 0 = Finset.univ := by decide
theorem up_seven : up 7 = ∅ := by decide
theorem lo_zero : lo 0 = ∅ := by decide
theorem lo_seven : lo 7 = Finset.univ := by decide

theorem up_sep (k : Fin 7) (Φ : Fin 7 → sProp 𝕄) : bigSep (up k.val) Φ = iprop(Φ k ∗ bigSep (up (k.val + 1)) Φ) := by
  rw [up_step, bigSep_insert (up_not_mem k)]; rfl
theorem lo_sep (k : Fin 7) (Φ : Fin 7 → sProp 𝕄) : bigSep (lo (k.val + 1)) Φ = iprop(Φ k ∗ bigSep (lo k.val) Φ) := by
  rw [lo_step, bigSep_insert (lo_not_mem k)]; rfl
theorem lo_emp (Φ : Fin 7 → sProp 𝕄) : (emp : sProp 𝕄) ⊢ bigSep (lo 0) Φ := by
  rw [lo_zero, bigSep_empty]; exact Entails.refl _

theorem ks_drop (k : Fin 7) : ks.drop k.val = k :: ks.drop (k.val + 1) := by revert k; decide

/-- A program run for each partner in turn, by a statement about one of its runs. -/
theorem forP_wp (f : Fin 7 → Pg F PUnit) (S : ℕ → sProp 𝕄)
    (hS : ∀ (k : Fin 7) {β : Type} (k' : PUnit → Pg F β) (Q : β → sProp 𝕄), S k.val ⊢ iprop((S (k.val + 1) -∗ WP c (k' ⟨⟩) Q) -∗ WP c (f k >>= k') Q))
    {α : Type} (k : PUnit → Pg F α) (Q : α → sProp 𝕄) :
    S 0 ⊢ iprop((S 7 -∗ WP c (k ⟨⟩) Q) -∗ WP c (forP f ks >>= k) Q) := by
  have key : ∀ m n, n + m = 7 → (S n ⊢ iprop((S 7 -∗ WP c (k ⟨⟩) Q) -∗ WP c (forP f (ks.drop n) >>= k) Q)) := by
    intro m
    induction m with
    | zero =>
      intro n h
      obtain rfl : n = 7 := h
      simp only [show ks.drop 7 = [] from rfl, forP, Prog.pure_eq_ret, Prog.bind_ret]
      iintro H Hk
      iapply Hk; iexact H
    | succ m ih =>
      intro n h
      have hn : n < 7 := by omega
      have e := ks_drop ⟨n, hn⟩
      simp only at e
      rw [e]
      simp only [forP, Prog.bind_assoc]
      have h1 := hS ⟨n, hn⟩ (fun _ => forP f (ks.drop (n + 1)) >>= k) Q
      have h2 := ih (n + 1) (by omega)
      simp only at h1
      iintro H Hk
      iapply h1 $$ H; iintro H
      iapply h2 $$ H
      iexact Hk
  exact key 7 0 rfl

/-- What a device has still to pay from partner `n` on. -/
def oweA (n : ℕ) : CellTallies nD τ sig ℕ := ∑ k ∈ up n, tallyAt (cell (adev c k) (.arcv k)) (54 + k.val) NA

theorem oweA_step (k : Fin 7) : oweA c k.val = oweA c (k.val + 1) + tallyAt (cell (adev c k) (.arcv k)) (54 + k.val) NA := by
  unfold oweA; rw [up_step, Finset.sum_insert (up_not_mem k), add_comm]

theorem oweA_seven : oweA c 7 = 0 := by unfold oweA; rw [up_seven, Finset.sum_empty]

theorem above_oweA (n : ℕ) : Above 54 (oweA c n) :=
  above_sum _ _ fun k _ => above_tally _ _ _ _ (Nat.le_add_right _ _) (by have := k.isLt; omega)

theorem aloc_out (q : PosShare TreeShare) (X : S8x128.Idx → Elt F .f32) :
    (ownsTc c aloc q X : sProp 𝕄) ⊢ iprop(∃ f : Buf (Elt F) (aloc.view.loc (c : Thread nD τ)), ⌜aloc.view.read (Elt F) f = X⌝
      ∗ (aloc.view.loc (c : Thread nD τ) ↦[aloc.view.set]{q} f)) := Entails.refl _

theorem arow_out (k : Fin 7) (X : S8x128.Idx → Elt F .f32) :
    (ownsTc c (arow k) fullShare X : sProp 𝕄) ⊢ iprop(∃ f : Buf (Elt F) ((arow k).view.loc (c : Thread nD τ)), ⌜(arow k).view.read (Elt F) f = X⌝
      ∗ ((arow k).view.loc (c : Thread nD τ) ↦[(arow k).view.set]{fullShare} f)) := Entails.refl _

theorem pay_asnd (k : Fin 7) (fs : Buf (Elt F) (aloc.view.loc (c : Thread nD τ))) (hfs : aloc.view.read (Elt F) fs = v.A c) :
    (aloc.view.loc (c : Thread nD τ) ↦[aloc.view.set]{(rest k.val).left} fs) ⊢ (rd v).payload (cell c (.asnd k)) 0 false := by
  rw [payload_eq]
  show _ ⊢ ownsTc c aloc (rest k.val).left (v.A c)
  rw [← hfs]
  exact owns_intro (c : Thread nD τ) aloc _ fs

theorem shift_back (k : Fin 7) : shift (adev c k) (7 - k.val) = c := by
  rw [adev_eq]; exact (around k).left_inv c

theorem pay_arcv (k : Fin 7) (fs : Buf (Elt F) (aloc.view.loc (c : Thread nD τ))) (hfs : aloc.view.read (Elt F) fs = v.A c)
    (fd : Buf (Elt F) ((arow k).view.loc (adev c k : Thread nD τ))) :
    iprop(((arow k).view.loc (adev c k : Thread nD τ) ↦[(arow k).view.set]{fullShare}
        ((arow k).view.write (Elt F) fd (aloc.view.read (Elt F) fs) Finset.univ)) ∗ emp)
      ⊢ (rd v).payload (cell (adev c k) (.arcv k)) 0 false := by
  rw [payload_eq]
  show _ ⊢ ownsTc (adev c k) (arow k) fullShare (v.A (shift (adev c k) (7 - k.val)))
  rw [shift_back, ← hfs, ← View.read_write_univ (v := (arow k).view) fd (aloc.view.read (Elt F) fs)]
  iintro ⟨H, -⟩
  iapply (owns_intro (adev c k : Thread nD τ) (arow k) fullShare _)
  rw [View.read_write_univ (v := (arow k).view) fd (aloc.view.read (Elt F) fs)]
  iexact H

/-- What one copy uses up. -/
def sendRes (k : Fin 7) : sProp 𝕄 :=
  iprop(anyA (adev c k) k ∗ dutyTok ER (cell c (.asnd k)) 0 false ∗ dutyTok ER (cell (adev c k) (.arcv k)) 0 false)

/-- Before the copy to partner `n`. -/
def Sent (n : ℕ) : sProp 𝕄 :=
  iprop(records v K ∗ bigSep (up n) (sendRes c) ∗ ownsTc c aloc (rest n) (v.A c)
    ∗ bigSep (lo n) (fun k => cred (tallyAt (cell c (.asnd k)) 0 NA)) ∗ Owes c (oweA c n))

theorem sent_step (k : Fin 7) {β : Type} (k' : PUnit → Pg F β) (Q : β → sProp 𝕄) :
    Sent v K c k.val ⊢ iprop((Sent v K c (k.val + 1) -∗ WP c (k' ⟨⟩) Q) -∗ WP c (asendP c k >>= k') Q) := by
  unfold Sent asendP
  rw [up_sep, lo_sep, oweA_step]
  simp only [Prog.lift, Prog.bind_op, Prog.bind_ret]
  unfold Owes
  iintro ⟨#HR, ⟨Hres, Hrest⟩, Hown, Hcr, ⟨%W, HO⟩⟩ Hk
  ihave Hres := (Entails.of_eq (show sendRes (F := F) c k
    = iprop(anyA (adev c k) k ∗ dutyTok ER (cell c (.asnd k)) 0 false ∗ dutyTok ER (cell (adev c k) (.arcv k)) 0 false) from rfl)) $$ Hres
  unfold anyA
  icases Hres with ⟨⟨%Y, Hd⟩, HtS, HtR⟩
  ihave Hown := (owns_halves (c : Thread nD τ) aloc (rest k.val) (v.A c)).1 $$ Hown
  icases Hown with ⟨Hl, Hr⟩
  ihave Hl := (aloc_out c (rest k.val).left (v.A c)) $$ Hl
  icases Hl with ⟨%fs, %hfs, Hl⟩
  ihave Hd := (arow_out (adev c k) k Y) $$ Hd
  icases Hd with ⟨%fd, %hfd, Hd⟩
  iapply (Rounds.wp_send_pointsTo_with 𝒱₀ ER (rd v) (c : Thread nD τ) none (c' := (adev c k : Thread nD τ))
    (src := aloc) (dst := arow k) (sS := .dma (asndS k)) (sem := .dma (arcvS k))
    (κ₁ := K (c, .asnd k)) (κ₂ := K (adev c k, .arcv k))
    (q := (rest k.val).left) (fs := fs) (fd := fd) (F := iprop(emp)) (r₁ := 0) (r₂ := 0) (d₁ := false) (d₂ := false)
    (duty_mem v c (.asnd k) Nat.one_pos) (duty_mem v (adev c k) (.arcv k) Nat.one_pos)
    (54 + k.val) 0 NA (arow_credit k) (amount_eq v c (.asnd k) 0 false)
    (amount_eq v (adev c k) (.arcv k) 0 false) (oweA c (k.val + 1)) rfl (W := W)
    (pay_asnd v c k fs hfs) (pay_arcv v c k fs hfs fd)) $$ [Hl Hd HO HtS HtR]
  · isplitr; · iapply (records_inv v K c (.asnd k)); iexact HR
    isplitr; · iapply (records_inv v K (adev c k) (.arcv k)); iexact HR
    isplitl [Hl]; · iexact Hl
    isplitl [Hd]
    · isplitl [Hd]; · iexact Hd
      iempintro
    isplitl [HO]; · iexact HO
    isplitl [HtS]; · iexact HtS
    isplitr; · iapply (records_reached v K c (.asnd k)); iexact HR
    isplitl [HtR]; · iexact HtR
    iapply (records_reached v K (adev c k) (.arcv k)); iexact HR
  iintro ⟨Hc, HO⟩
  iapply Hk
  isplitr; · iexact HR
  isplitl [Hrest]; · iexact Hrest
  isplitl [Hr]; · iexact Hr
  isplitl [Hc Hcr]
  · isplitl [Hc]; · iexact Hc
    iexact Hcr
  iexists W; iexact HO

/-- What the two waits with one partner use up, and what they give. -/
def waitRes (k : Fin 7) : sProp 𝕄 :=
  iprop(cred (tallyAt (cell c (.asnd k)) 0 NA) ∗ cred (tallyAt (cell c (.arcv k)) (54 + k.val) NA)
    ∗ atPos ER (cell c (.asnd k)) 0 ∅ 0 ∗ atPos ER (cell c (.arcv k)) 0 ∅ 0)

@[inherit_doc waitRes]
def waitEnd (k : Fin 7) : sProp 𝕄 :=
  iprop(ownsTc c aloc (rest k.val).left (v.A c) ∗ ownsTc c (arow k) fullShare (v.A (shift c (7 - k.val)))
    ∗ atPos ER (cell c (.asnd k)) 1 ∅ 0 ∗ atPos ER (cell c (.arcv k)) 1 ∅ 0)

/-- Before the waits with partner `n`. -/
def Got (n : ℕ) : sProp 𝕄 := iprop(records v K ∗ bigSep (up n) (waitRes c) ∗ bigSep (lo n) (waitEnd v c) ∗ Owes c 0)

theorem got_step (k : Fin 7) {β : Type} (k' : PUnit → Pg F β) (Q : β → sProp 𝕄) :
    Got v K c k.val ⊢ iprop((Got v K c (k.val + 1) -∗ WP c (k' ⟨⟩) Q) -∗ WP c (awaitP k >>= k') Q) := by
  unfold Got awaitP
  rw [up_sep, lo_sep]
  simp only [Prog.lift, Prog.bind_op, Prog.bind_ret]
  iintro ⟨#HR, ⟨Hres, Hrest⟩, Hend, HO⟩ Hk
  ihave Hres := (Entails.of_eq (show waitRes (F := F) c k
    = iprop(cred (tallyAt (cell c (.asnd k)) 0 NA) ∗ cred (tallyAt (cell c (.arcv k)) (54 + k.val) NA)
        ∗ atPos ER (cell c (.asnd k)) 0 ∅ 0 ∗ atPos ER (cell c (.arcv k)) 0 ∅ 0) from rfl)) $$ Hres
  icases Hres with ⟨Hcs, Hcr, Hs, Hr⟩
  iapply (wait_cell v K c (.asnd k) (by simp) (fun P => by
      rw [wpE_waitDma2_eq 𝒱₀ (c : Thread nD τ) none Set.univ]; rfl) Nat.one_pos 0 (by decide) (above_zero _)) $$ [Hcs HO Hs]
  · isplitr; · iexact HR
    isplitl [Hcs]; · iexact Hcs
    isplitl [HO]; · iexact HO
    iexact Hs
  iintro ⟨HO, Hs, -, Hl⟩
  ihave Hl := (Entails.of_eq (show kpay v c (.asnd k) 0 false = ownsTc c aloc (rest k.val).left (v.A c) from rfl)) $$ Hl
  iapply (wait_cell v K c (.arcv k) (by simp) (fun P => by
      rw [wpE_waitDma2_eq 𝒱₀ (c : Thread nD τ) none Set.univ, arow_credit]; rfl) Nat.one_pos (54 + k.val) (by have := k.isLt; omega) (above_zero _)) $$ [Hcr HO Hr]
  · isplitr; · iexact HR
    isplitl [Hcr]; · iexact Hcr
    isplitl [HO]; · iexact HO
    iexact Hr
  iintro ⟨HO, Hr, -, Hrow⟩
  ihave Hrow := (Entails.of_eq (show kpay v c (.arcv k) 0 false = ownsTc c (arow k) fullShare (v.A (shift c (7 - k.val))) from rfl)) $$ Hrow
  iapply Hk
  isplitr; · iexact HR
  isplitl [Hrest]; · iexact Hrest
  isplitl [Hl Hrow Hs Hr Hend]
  · isplitl [Hl Hrow Hs Hr]
    · unfold waitEnd
      isplitl [Hl]; · iexact Hl
      isplitl [Hrow]; · iexact Hrow
      isplitl [Hs]; · iexact Hs
      iexact Hr
    iexact Hend
  iexact HO

/-- The lent parts of the own maximum and what was kept make it whole again. -/
theorem rejoin (n : ℕ) (hn : n ≤ 7) (X : S8x128.Idx → Elt F .f32) :
    iprop(ownsTc c aloc (rest n) X ∗ bigSep (lo n) fun k => ownsTc c aloc (rest k.val).left X) ⊢ (ownsTc c aloc fullShare X : sProp 𝕄) := by
  induction n with
  | zero => iintro ⟨H, -⟩; iexact H
  | succ n ih =>
    rw [lo_sep (⟨n, hn⟩ : Fin 7)]
    refine BIBase.Entails.trans ?_ (ih (by omega))
    iintro ⟨Hr, Hl, H⟩
    isplitl [Hr Hl]
    · iapply (owns_halves (c : Thread nD τ) aloc (rest n) X).2
      isplitl [Hl]; · iexact Hl
      iexact Hr
    iexact H

end Cert.KernelIdeal.Ring

end
-- ==== Proof.Out.lean ====
/- The exchange of the maxima and the two output halves, from the local maximum to the stored result. -/
module

public import proofs.«01_k».proof.Proof.Tail

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (v : Vals F) (K : Dev nD × Kd → ℕ) (c : Dev nD)

/-! ## The rectangles -/

theorem zip_sep {T : Type} (s : Finset T) (Φ Ψ : T → sProp 𝕄) :
    iprop(bigSep s Φ ∗ bigSep s Ψ) ⊢ bigSep s fun i => iprop(Φ i ∗ Ψ i) := Entails.of_eq (bigSep_sep s Φ Ψ).symm
theorem unzip_sep {T : Type} (s : Finset T) (Φ Ψ : T → sProp 𝕄) :
    (bigSep s fun i => iprop(Φ i ∗ Ψ i)) ⊢ iprop(bigSep s Φ ∗ bigSep s Ψ) := Entails.of_eq (bigSep_sep s Φ Ψ)

theorem lrect_mem (x : S8x128.Idx) : x ∈ lrect.set := by
  unfold lrect
  rw [Rect.mem_set_unit]
  intro a
  match a with
  | 0 => exact ⟨Nat.zero_le _, by have : (x 0).val < 8 := (x 0).isLt; show (x 0).val < 0 + 8; omega⟩
  | 1 => exact ⟨Nat.zero_le _, by have : (x 1).val < 128 := (x 1).isLt; show (x 1).val < 0 + 128; omega⟩

theorem lrect_cover : (Finset.univ : Finset Unit).biUnion (fun _ => lrect.set) = Finset.univ :=
  Finset.eq_univ_iff_forall.mpr fun x => Finset.mem_biUnion.mpr ⟨(), Finset.mem_univ _, lrect_mem x⟩

theorem arect_disjoint (t t' : Fin 7) (h : t ≠ t') : Disjoint (arect t).set (arect t').set := by
  unfold arect
  refine Rect.unit_disjoint (0 : Fin 2) ?_
  have : t.val ≠ t'.val := fun e => h (Fin.ext e)
  show 8 * t.val + 8 ≤ 8 * t'.val ∨ 8 * t'.val + 8 ≤ 8 * t.val
  omega

theorem arect_cover : (Finset.univ : Finset (Fin 7)).biUnion (fun t => (arect t).set) = Finset.univ := by
  refine Finset.eq_univ_iff_forall.mpr fun x => Finset.mem_biUnion.mpr ?_
  have h0 : (x 0).val < 56 := (x 0).isLt
  have h1 : (x 1).val < 128 := (x 1).isLt
  refine ⟨⟨(x 0).val / 8, by omega⟩, Finset.mem_univ _, ?_⟩
  unfold arect
  rw [Rect.mem_set_unit]
  intro a
  match a with
  | 0 =>
    show 8 * ((x 0).val / 8) ≤ (x 0).val ∧ (x 0).val < 8 * ((x 0).val / 8) + 8
    omega
  | 1 => exact ⟨Nat.zero_le _, by show (x 1).val < 0 + 128; omega⟩

theorem orect_unit (d : Bool) : ∀ a, (orect d).stride a = 1 := by cases d <;> exact fun _ => rfl

theorem orect_disjoint (t t' : Bool) (h : t ≠ t') : Disjoint (orect t).set (orect t').set := by
  cases t <;> cases t'
  · exact absurd rfl h
  · unfold orect; exact Rect.unit_disjoint (1 : Fin 2) (Or.inr (by show 0 + 1024 ≤ 1024; omega))
  · unfold orect; exact Rect.unit_disjoint (1 : Fin 2) (Or.inl (by show 0 + 1024 ≤ 1024; omega))
  · exact absurd rfl h

theorem orect_cover : (Finset.univ : Finset Bool).biUnion (fun t => (orect t).set) = Finset.univ := by
  refine Finset.eq_univ_iff_forall.mpr fun x => Finset.mem_biUnion.mpr ?_
  have h0 : (x 0).val < 512 := (x 0).isLt
  have h1 : (x 1).val < 2048 := (x 1).isLt
  by_cases h : (x 1).val < 1024
  · refine ⟨true, Finset.mem_univ _, ?_⟩
    unfold orect
    simp only
    rw [Rect.mem_set_unit]
    intro a
    match a with
    | 0 => exact ⟨Nat.zero_le _, by show (x 0).val < 0 + 512; omega⟩
    | 1 => exact ⟨Nat.zero_le _, by show (x 1).val < 0 + 1024; omega⟩
  · refine ⟨false, Finset.mem_univ _, ?_⟩
    unfold orect
    simp only
    rw [Rect.mem_set_unit]
    intro a
    match a with
    | 0 => exact ⟨Nat.zero_le _, by show (x 0).val < 0 + 512; omega⟩
    | 1 => exact ⟨by show 1024 ≤ (x 1).val; omega, by show (x 1).val < 1024 + 1024; omega⟩

theorem local_out (X : S8x128.Idx → Elt F .f32) :
    (ownsTc c (Memref.whole cc0_scratch6) fullShare X : sProp 𝕄) ⊢ ownsTc c aloc fullShare fun j => X (lrect.emb j) := by
  refine BIBase.Entails.trans (owns_rects (c : Thread nD τ) (Memref.whole cc0_scratch6) fullShare (fun _ : Unit => lrect) (fun _ _ => rfl)
    (fun t t' h => absurd rfl h) lrect_cover X) (Entails.of_eq ?_)
  rw [show (Finset.univ : Finset Unit) = {()} from rfl, bigSep_singleton]
  rfl

theorem local_in (X : S8x128.Idx → Elt F .f32) :
    (ownsTc c aloc fullShare X : sProp 𝕄) ⊢ iprop(∃ Y, ownsTc c (Memref.whole cc0_scratch6) fullShare Y) := by
  haveI : Nonempty (Elt F .f32) := Elt.nonempty F _
  refine BIBase.Entails.trans ?_ (BIBase.Entails.trans (owns_glue (fun _ : Unit => lrect) c (Memref.whole cc0_scratch6) fullShare (fun _ _ => rfl)
    (fun t t' h => absurd rfl h) lrect_cover (fun _ => X)) ?_)
  · rw [show (Finset.univ : Finset Unit) = {()} from rfl, bigSep_singleton]; exact Entails.refl _
  · iintro H; iexists _; iexact H

theorem load_local {α : Type} (X : S8x128.Idx → Elt F .f32) {h : (Memref.whole cc0_scratch6 : Memref sig .tc .vmem S8x128 .f32).view.LoadsAt lrect.toLoadRect}
    (k : (S8x128.Idx → Elt F .f32) → Pg F α) (Q : α → sProp 𝕄) :
    ownsTc c aloc fullShare X
      ⊢ iprop((ownsTc c aloc fullShare X -∗ WP c (k X) Q)
        -∗ WP c (.op (.load (Memref.whole cc0_scratch6 : Memref sig .tc .vmem S8x128 .f32) lrect.toLoadRect h) k) Q) :=
  load_slice c (Memref.whole cc0_scratch6) lrect (fun _ => rfl) fullShare X k Q

theorem store_local {α : Type} (X w : S8x128.Idx → Elt F .f32) {h : ((Memref.whole cc0_scratch6 : Memref sig .tc .vmem S8x128 .f32).access lrect).Stores Finset.univ}
    {h' : (Finset.univ : Finset lrect.shape.Idx) = Finset.univ ∨ ∀ a, lrect.stride a = 1} (k : PUnit → Pg F α) (Q : α → sProp 𝕄) :
    ownsTc c aloc fullShare X
      ⊢ iprop((ownsTc c aloc fullShare w -∗ WP c (k ⟨⟩) Q)
        -∗ WP c (.op (.store (Memref.whole cc0_scratch6 : Memref sig .tc .vmem S8x128 .f32) lrect w Finset.univ h h') k) Q) :=
  store_slice c (Memref.whole cc0_scratch6) lrect (fun _ => rfl) X w k Q

/-- All the maxima a device received. -/
def zG (x : S56x128.Idx) : Elt F .f32 :=
  haveI : Nonempty (Elt F .f32) := Elt.nonempty F _
  glue arect (fun k => v.A (shift c (7 - k.val))) x

/-- As they are read. -/
def zV (j : S56x128.Idx) : Elt F .f32 := zG v c ((Rect.unit (s := S56x128) ![0, 0] S56x128.size inb_S56x128_S56x128_0_0).emb j)

theorem rows_in :
    (bigSep Finset.univ fun k => ownsTc c (arow k) fullShare (v.A (shift c (7 - k.val))) : sProp 𝕄) ⊢ ownsTc c (Memref.whole cc0_scratch7) fullShare (zG v c) := by
  haveI : Nonempty (Elt F .f32) := Elt.nonempty F _
  exact owns_glue arect c (Memref.whole cc0_scratch7) fullShare (fun _ _ => rfl) arect_disjoint arect_cover
    (fun k => v.A (shift c (7 - k.val)))

/-- The two halves of the output. -/
def outG (yl sr : FVec F S512x1024 .f32) (vl : Vec F S1x512x1024 .bf16) (z : Vec F S56x128 .f32) : ∀ d, (orect d).shape.Idx → Elt F .f32
  | true => k0_pay85 (k0_pay80 yl vl) (k0_pay81 yl sr vl) z
  | false => k0_pay86 (k0_pay83 (k0_pay81 yl sr vl) z) (k0_pay84 sr (k0_pay81 yl sr vl) z)

/-- The output. -/
def outF (yl sr : FVec F S512x1024 .f32) (vl : Vec F S1x512x1024 .bf16) (z : Vec F S56x128 .f32) (x : S512x2048.Idx) : Elt F .f32 :=
  haveI : Nonempty (Elt F .f32) := Elt.nonempty F _
  glue orect (outG yl sr vl z) x

/-- What the exchange starts from. -/
def tailRes : sProp 𝕄 :=
  bigSep Finset.univ fun k : Fin 7 => iprop((dutyTok ER (cell c (.asnd k)) 0 false ∗ dutyTok ER (cell (adev c k) (.arcv k)) 0 false)
    ∗ cred (tallyAt (cell c (.arcv k)) (54 + k.val) NA)
    ∗ atPos ER (cell c (.asnd k)) 0 ∅ 0 ∗ atPos ER (cell c (.arcv k)) 0 ∅ 0)

/-- What it leaves. -/
def tailDone : sProp 𝕄 :=
  iprop((∃ Y, ownsTc c (Memref.whole cc0_scratch6) fullShare Y) ∗ (∃ Y, ownsTc c (Memref.whole cc0_scratch7) fullShare Y)
    ∗ bigSep Finset.univ fun k : Fin 7 => iprop(atPos ER (cell c (.asnd k)) 1 ∅ 0 ∗ atPos ER (cell c (.arcv k)) 1 ∅ 0))

theorem kept_rows : (kept c true 0 7 : sProp 𝕄) ⊢ bigSep Finset.univ fun k : Fin 7 => anyA (adev c k) k := by
  unfold kept
  rw [if_pos ⟨rfl, rfl⟩, show (Finset.univ.filter fun k : Fin 7 => k.val < 7) = Finset.univ by decide]
  refine Entails.of_eq (bigSep_congr fun k _ => ?_)
  rw [adev_eq]

theorem sent_start :
    iprop(records v K ∗ kept c true 0 7 ∗ (bigSep Finset.univ fun k : Fin 7 => iprop(dutyTok ER (cell c (.asnd k)) 0 false ∗ dutyTok ER (cell (adev c k) (.arcv k)) 0 false))
        ∗ ownsTc c aloc fullShare (v.A c) ∗ Owes c (oweA c 0)) ⊢ Sent v K c 0 := by
  unfold Sent
  rw [up_zero]
  iintro ⟨#HR, Hk, Ht, Hown, HO⟩
  isplitr; · iexact HR
  isplitl [Hk Ht]
  · unfold sendRes
    iapply (zip_sep _ _ _)
    isplitl [Hk]; · iapply (kept_rows c); iexact Hk
    iexact Ht
  isplitl [Hown]; · iexact Hown
  isplitr; · iapply (lo_emp); iempintro
  iexact HO

theorem got_start :
    iprop(Sent v K c 7 ∗ (bigSep Finset.univ fun k : Fin 7 => iprop(cred (tallyAt (cell c (.arcv k)) (54 + k.val) NA)
          ∗ atPos ER (cell c (.asnd k)) 0 ∅ 0 ∗ atPos ER (cell c (.arcv k)) 0 ∅ 0)))
      ⊢ iprop(Got v K c 0 ∗ ownsTc c aloc (rest 7) (v.A c)) := by
  unfold Sent Got
  rw [lo_seven, up_zero, oweA_seven]
  iintro ⟨⟨#HR, -, Hown, Hcr, HO⟩, Hres⟩
  isplitr [Hown]
  · isplitr; · iexact HR
    isplitl [Hcr Hres]
    · unfold waitRes
      iapply (zip_sep _ _ _)
      isplitl [Hcr]; · iexact Hcr
      iexact Hres
    isplitr; · iapply (lo_emp); iempintro
    iexact HO
  iexact Hown

theorem got_end :
    iprop(Got v K c 7 ∗ ownsTc c aloc (rest 7) (v.A c))
      ⊢ iprop((∃ Y, ownsTc c (Memref.whole cc0_scratch6) fullShare Y) ∗ ownsTc c (Memref.whole cc0_scratch7) fullShare (zG v c)
        ∗ (bigSep Finset.univ fun k : Fin 7 => iprop(atPos ER (cell c (.asnd k)) 1 ∅ 0 ∗ atPos ER (cell c (.arcv k)) 1 ∅ 0)) ∗ Owes c 0) := by
  unfold Got waitEnd
  iintro ⟨⟨-, -, Hend, HO⟩, Hown⟩
  ihave Hend := (unzip_sep _ _ _) $$ Hend
  icases Hend with ⟨Hl, Hend⟩
  ihave Hend := (unzip_sep _ _ _) $$ Hend
  icases Hend with ⟨Hrow, Hpos⟩
  isplitl [Hown Hl]
  · iapply (local_in c (v.A c))
    iapply (rejoin c 7 (le_refl _) (v.A c))
    isplitl [Hown]; · iexact Hown
    iexact Hl
  isplitl [Hrow]
  · iapply (rows_in v c)
    iapply (Entails.of_eq (show bigSep (lo 7) (fun k => ownsTc c (arow k) fullShare (v.A (shift c (7 - k.val))))
      = (bigSep Finset.univ (fun k => ownsTc c (arow k) fullShare (v.A (shift c (7 - k.val)))) : sProp 𝕄) from by rw [lo_seven]))
    iexact Hrow
  isplitl [Hpos]
  · iapply (Entails.of_eq (show bigSep (lo 7) (fun k : Fin 7 => iprop(atPos ER (cell c (.asnd k)) 1 ∅ 0 ∗ atPos ER (cell c (.arcv k)) 1 ∅ 0))
      = (bigSep Finset.univ (fun k : Fin 7 => iprop(atPos ER (cell c (.asnd k)) 1 ∅ 0 ∗ atPos ER (cell c (.arcv k)) 1 ∅ 0)) : sProp 𝕄) from by rw [lo_seven]))
    iexact Hpos
  iexact HO

/-- The two output stores. -/
theorem store_out {α : Type} (M2 : Memref sig .tc .vmem S512x2048 .f32) (X : S512x2048.Idx → Elt F .f32) (G : ∀ d, (orect d).shape.Idx → Elt F .f32)
    {h1 : M2.view.LoadsAt (orect true).toLoadRect} {h2 : (M2.access (orect true)).Stores Finset.univ}
    {h2' : (Finset.univ : Finset (orect true).shape.Idx) = Finset.univ ∨ ∀ a, (orect true).stride a = 1}
    {h3 : M2.view.LoadsAt (orect false).toLoadRect} {h4 : (M2.access (orect false)).Stores Finset.univ}
    {h4' : (Finset.univ : Finset (orect false).shape.Idx) = Finset.univ ∨ ∀ a, (orect false).stride a = 1}
    (k : PUnit → Pg F α) (Q : α → sProp 𝕄) :
    haveI : Nonempty (Elt F .f32) := Elt.nonempty F _
    ownsTc c M2 fullShare X
      ⊢ iprop((ownsTc c M2 fullShare (glue orect G) -∗ WP c (k ⟨⟩) Q)
        -∗ WP c (.op (.load M2 (orect true).toLoadRect h1) fun _ => .op (.store M2 (orect true) (G true) Finset.univ h2 h2') fun _ =>
          .op (.load M2 (orect false).toLoadRect h3) fun _ => .op (.store M2 (orect false) (G false) Finset.univ h4 h4') k) Q) := by
  haveI : Nonempty (Elt F .f32) := Elt.nonempty F _
  have hu : ∀ Φ : Bool → sProp 𝕄, bigSep Finset.univ Φ = iprop(Φ false ∗ Φ true) := fun Φ => by
    rw [bigSep_univ_eq_bigSepL [false, true] (by decide) (by decide), bigSepL_cons_cons, bigSepL_singleton]; rfl
  have hsplit := owns_rects (Val := Elt F) (Ix := ℕ) (Name := ℕ) (U := UU) (Lvl := ℕ) (c : Thread nD τ) M2 fullShare orect orect_unit orect_disjoint orect_cover X
  rw [hu] at hsplit
  have hjoin := owns_glue (F := F) orect c M2 fullShare orect_unit orect_disjoint orect_cover G
  rw [hu] at hjoin
  iintro H Hk
  ihave H := hsplit $$ H
  icases H with ⟨HF, HT⟩
  iapply (load_slice c M2 (orect true) (orect_unit true)) $$ HT; iintro HT
  iapply (store_slice c M2 (orect true) (orect_unit true)) $$ HT; iintro HT
  iapply (load_slice c M2 (orect false) (orect_unit false)) $$ HF; iintro HF
  iapply (store_slice c M2 (orect false) (orect_unit false)) $$ HF; iintro HF
  iapply Hk
  iapply hjoin
  isplitl [HF]; · iexact HF
  iexact HT

/-- The exchange of the maxima and the output. -/
theorem tail {α : Type} (M2 : Memref sig .tc .vmem S512x2048 .f32) (yl yr sr : FVec F S512x1024 .f32) (vl : Vec F S1x512x1024 .bf16)
    (hA : v.A c = k0_pay82 yl sr vl) (X : S512x2048.Idx → Elt F .f32) (k : PUnit → Pg F α) (Q : α → sProp 𝕄) :
    iprop(records v K ∗ (∃ Y, ownsTc c (Memref.whole cc0_scratch6) fullShare Y) ∗ kept c true 0 7 ∗ tailRes c ∗ ownsTc c M2 fullShare X ∗ Owes c (oweA c 0))
      ⊢ iprop(((tailDone c ∗ ownsTc c M2 fullShare (outF yl sr vl (zV v c)) ∗ Owes c 0) -∗ WP c (k ⟨⟩) Q) -∗ WP c (tailP M2 c yl yr sr vl >>= k) Q) := by
  unfold tailP tailRes tailDone
  simp only [Prog.lift, Prog.bind_op, Prog.bind_ret, Prog.bind_assoc, Prog.pure_eq_ret]
  rw [← hA]
  iintro ⟨#HR, ⟨%Y, Hloc⟩, Hkept, Hall, HM, HO⟩ Hk
  ihave Hall := (unzip_sep _ _ _) $$ Hall
  icases Hall with ⟨Htok, Hres⟩
  ihave Hloc := (local_out c Y) $$ Hloc
  iapply (load_local c) $$ Hloc; iintro Hloc
  iapply (store_local c) $$ Hloc; iintro Hloc
  iapply (forP_wp c (asendP c) (Sent v K c) (sent_step v K c)) $$ [Hkept Htok Hloc HO]
  · iapply (sent_start v K c)
    isplitr; · iexact HR
    isplitl [Hkept]; · iexact Hkept
    isplitl [Htok]; · iexact Htok
    isplitl [Hloc]; · iexact Hloc
    iexact HO
  iintro Hsent
  ihave Hgot := (got_start v K c) $$ [Hsent Hres]
  · isplitl [Hsent]; · iexact Hsent
    iexact Hres
  icases Hgot with ⟨Hgot, Hown⟩
  iapply (forP_wp c awaitP (Got v K c) (got_step v K c)) $$ Hgot; iintro Hgot
  ihave Hgot := (got_end v K c) $$ [Hgot Hown]
  · isplitl [Hgot]; · iexact Hgot
    iexact Hown
  icases Hgot with ⟨H6, H7, Hpos, HO⟩
  iapply (load_whole c (Memref.whole cc0_scratch7) (Rect.unit (s := S56x128) ![0, 0] S56x128.size inb_S56x128_S56x128_0_0) (fun _ => rfl)) $$ H7; iintro H7
  iapply (store_out c M2 X (outG yl sr vl (zV v c))) $$ HM; iintro HM
  iapply Hk
  isplitl [H6 H7 Hpos]
  · isplitl [H6]; · iexact H6
    isplitl [H7]; · iexists _; iexact H7
    iexact Hpos
  isplitl [HM]; · iexact HM
  iexact HO

end Cert.KernelIdeal.Ring

end
-- ==== Proof.Body.lean ====
/- The values a run passes on, and what one device's whole body establishes. -/
module

public import proofs.«01_k».proof.Proof.Out

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The values

`X` and `W` are the two factors' blocks on every device. -/

section Values

variable (X : Dev nD → S4096x512.Idx → Elt F .f32) (W : Dev nD → S512x2048.Idx → Elt F .f32)

/-- The rows a device multiplies at step `s`. -/
def xrows (Y : S4096x512.Idx → Elt F .f32) (d : Bool) (c : Dev nD) (s : Fin 8) : Vec F S512x512 .f32 := match d with
  | false => fun j => Y ((xrect false c s).emb j)
  | true => fun j => Y ((xrect true c s).emb j)

/-- The second factor as it is read. -/
def wread (Y : S512x2048.Idx → Elt F .f32) : Vec F S512x2048 .f32 :=
  fun j => Y ((Rect.unit (s := S512x2048) ![0, 0] S512x2048.size inb_S512x2048_S512x2048_0_0).emb j)

/-- Its two parts. -/
def whi (c : Dev nD) : FVec F S512x2048 .bf16 := k0_pay1 (wread (W c))
@[inherit_doc whi]
def wlo (c : Dev nD) : FVec F S512x2048 .bf16 := k0_pay2 (wread (W c)) (wread (W c))

/-- A device's own product at step `s`. -/
def part (d : Bool) (c : Dev nD) (s : Fin 8) : FVec F S512x1024 .f32 := partV d (whi W c) (wlo W c) (xrows (X c) d c s)

/-- The message of step `s`, by its sender. -/
def msg (d : Bool) (q : Fin 2) : ℕ → Dev nD → (S1x512x512.Idx → Elt F .bf16)
  | 0, c => firstV d q (whi W c) (wlo W c) (xrows (X c) d c 0)
  | s + 1, c => addV q (part X W d c (Fin.ofNat 8 (s + 1))) (msg d q s (src d c))

/-- The messages with any maxima. -/
def preVals : Vals F := ⟨fun c d q s => msg X W d q s c, fun _ _ => (Elt.inhabited F .f32).default⟩

/-- The last slot of a stream. -/
def lastV (d : Bool) (c : Dev nD) : Vec F S1x512x1024 .bf16 := vS (preVals X W) c d

/-- The right half of the sum. -/
def sumR (c : Dev nD) : FVec F S512x1024 .f32 := k0_pay79 (part X W false c 7) (lastV X W false c)

/-- All values of a run. -/
def vals : Vals F := ⟨fun c d q s => msg X W d q s c, fun c => k0_pay82 (part X W true c 7) (sumR X W c) (lastV X W true c)⟩

/-- The result of device `c`. -/
def result (c : Dev nD) : S512x2048.Idx → Elt F .f32 :=
  outF (part X W true c 7) (sumR X W c) (lastV X W true c) (zV (vals X W) c)

end Values

variable (X : Dev nD → S4096x512.Idx → Elt F .f32) (W : Dev nD → S512x2048.Idx → Elt F .f32)
variable (v : Vals F) (K : Dev nD × Kd → ℕ) (c : Dev nD)

theorem load_x {α : Type} (M0 : Memref sig .tc .vmem S4096x512 .f32) (d : Bool) (s : Fin 8) (Y : S4096x512.Idx → Elt F .f32)
    (k : Vec F S512x512 .f32 → Pg F α) (Q : α → sProp 𝕄) :
    ownsTc c M0 fullShare Y ⊢ iprop((ownsTc c M0 fullShare Y -∗ WP c (k (xrows Y d c s)) Q) -∗ WP c (loadX M0 c d s >>= k) Q) := by
  cases d
  · exact load_whole c M0 (xrect false c s) (fun _ => rfl) fullShare Y k Q
  · exact load_whole c M0 (xrect true c s) (fun _ => rfl) fullShare Y k Q

theorem load_w {α : Type} (M1 : Memref sig .tc .vmem S512x2048 .f32) (Y : S512x2048.Idx → Elt F .f32)
    (k : Vec F S512x2048 .f32 → Pg F α) (Q : α → sProp 𝕄) :
    ownsTc c M1 fullShare Y ⊢ iprop((ownsTc c M1 fullShare Y -∗ WP c (k (wread Y)) Q) -∗ WP c (loadW M1 >>= k) Q) :=
  load_whole c M1 (Rect.unit (s := S512x2048) ![0, 0] S512x2048.size inb_S512x2048_S512x2048_0_0) (fun _ => rfl) fullShare Y k Q

/-! ## The barrier -/

/-- What the barrier starts from. -/
def barRes : sProp 𝕄 :=
  iprop(atPos ER (cell c .bar) 0 ∅ 0 ∗ cred (tallyAt (cell c .bar) 1 2)
    ∗ dutyTok ER (cell (tgt true c) .bar) 0 false ∗ dutyTok ER (cell (tgt false c) .bar) 0 true)

theorem wp_bar_signal {α : Type} (e : Bool) (O : CellTallies nD τ sig ℕ) (k : PUnit → Pg F α) (Q : α → sProp 𝕄) :
    iprop(records v K ∗ Owes c (O + tallyAt (cell (tgt e c) .bar) 1 1) ∗ dutyTok ER (cell (tgt e c) .bar) 0 (!e)
        ∗ anyC c (!e) 1 0 ∗ anyC c (!e) 1 1)
      ⊢ iprop((Owes c O -∗ WP c (k ⟨⟩) Q) -∗ WP c (semSignalWord (tgt e c) barrier0 1#32 >>= k) Q) := by
  unfold semSignalWord Owes
  simp only [Prog.bind_op, Prog.bind_ret]
  iintro ⟨#HR, ⟨%Wt, HO⟩, Htok, Hany⟩ Hk
  iapply (Rounds.wp_signal 𝒱₀ ER (rd v) (c : Thread nD τ) none (dst := (tgt e c : Thread nD τ)) (sem := barrier0) (κ := K (tgt e c, .bar)) (r := 0)
      (d := !e) (by rw [show ((tgt e c : Thread nD τ), SemLoc.reg barrier0) = cell (tgt e c) .bar from rfl, duties_bar]; exact Finset.mem_univ _)
      ((amount_eq v (tgt e c) .bar 0 (!e)).trans (show (1 : ℕ) = _ by decide)) 1 O rfl)
    $$ [HO Htok Hany]
  · isplitr; · iapply (records_inv v K (tgt e c) .bar); iexact HR
    isplitl [HO]; · iexact HO
    isplitl [Htok]; · iexact Htok
    isplitl [Hany]
    · iapply (show iprop(anyC c (!e) 1 0 ∗ anyC c (!e) 1 1)
        ⊢ (rd v).payload ((tgt e c : Thread nD τ), .reg barrier0) 0 (!e) from by
          show _ ⊢ (rd v).payload (cell (tgt e c) .bar) 0 (!e)
          rw [payload_eq]
          show _ ⊢ iprop(anyC (tgt (!e) (tgt e c)) (!e) 1 0 ∗ anyC (tgt (!e) (tgt e c)) (!e) 1 1)
          rw [show tgt (!e) (tgt e c) = c from src_tgt e c])
      iexact Hany
    iapply (records_reached v K (tgt e c) .bar); iexact HR
  iintro HO
  iapply Hk
  iexists Wt; iexact HO

/-- The barrier: both neighbours' first slots are there. -/
theorem wp_bar {α : Type} {O : CellTallies nD τ sig ℕ} (hO : Above 2 O) (k : PUnit → Pg F α) (Q : α → sProp 𝕄) :
    iprop(records v K ∗ barRes c ∗ Owes c (O + tallyAt (cell (tgt false c) .bar) 1 1 + tallyAt (cell (tgt true c) .bar) 1 1)
        ∗ (anyC c false 1 0 ∗ anyC c false 1 1) ∗ anyC c true 1 0 ∗ anyC c true 1 1)
      ⊢ iprop(((atPos ER (cell c .bar) 1 ∅ 0 ∗ (anyC (tgt false c) false 1 0 ∗ anyC (tgt false c) false 1 1)
            ∗ (anyC (tgt true c) true 1 0 ∗ anyC (tgt true c) true 1 1) ∗ Owes c O) -∗ WP c (k ⟨⟩) Q)
        -∗ WP c (barP c >>= k) Q) := by
  unfold barP barRes
  simp only [Prog.bind_assoc]
  iintro ⟨#HR, ⟨Hpos, Hcr, Ht1, Ht2⟩, HO, HF, HT⟩ Hk
  iapply (wp_bar_signal v K c true _) $$ [HO Ht1 HF]
  · isplitr; · iexact HR
    isplitl [HO]; · iexact HO
    isplitl [Ht1]; · iexact Ht1
    iexact HF
  iintro HO
  iapply (wp_bar_signal v K c false _) $$ [HO Ht2 HT]
  · isplitr; · iexact HR
    isplitl [HO]; · iexact HO
    isplitl [Ht2]; · iexact Ht2
    iexact HT
  iintro HO
  unfold semWaitWord Owes
  simp only [Prog.bind_op, Prog.bind_ret]
  icases HO with ⟨%Wt, HO⟩
  iapply (Rounds.wp_wait_rest_token 𝒱₀ ER (rd v) (c : Thread nD τ) none (κ := K (c, .bar)) (sm := .reg barrier0) (k' := 2)
      (fun P => wpE_semWait_eq 𝒱₀ (c : Thread nD τ) none Set.univ P) (Set.mem_univ _) 1 (O := O) (W := Wt) (R := 0) (m := 0) (T := ∅)
      (by rw [show ((c : Thread nD τ), SemLoc.reg barrier0) = cell c .bar from rfl, expect_bar])) $$ [Hcr HO Hpos]
  · isplitr; · iapply (records_inv v K c .bar); iexact HR
    isplitl [Hcr]; · iexact Hcr
    isplitl [HO]; · iexact HO
    isplitr
    · iapply (mayWait (F := F) c (.reg barrier0) 1 (by decide) hO); iapply (records_lev v K); iexact HR
    iexact Hpos
  iintro ⟨HO, Hpos, -, Hpay⟩
  ihave Hpay := (show bigSep ((rd v).duties ((c : Thread nD τ), SemLoc.reg barrier0) 0 \ ∅) (fun d => (rd v).payload ((c : Thread nD τ), SemLoc.reg barrier0) 0 d)
    ⊢ iprop((anyC (tgt false c) false 1 0 ∗ anyC (tgt false c) false 1 1) ∗ (anyC (tgt true c) true 1 0 ∗ anyC (tgt true c) true 1 1))
    from Entails.of_eq (rest_bar v c)) $$ Hpay
  icases Hpay with ⟨HF, HT⟩
  iapply Hk
  isplitl [Hpos]; · iexact Hpos
  isplitl [HF]; · iexact HF
  isplitl [HT]; · iexact HT
  iexists _; iexact HO

/-! ## The steps -/

/-- What a step's four hops pay. -/
def stepO (t : ℕ) : CellTallies nD τ sig ℕ := hopO c true 1 t + hopO c false 1 t + hopO c true 0 t + hopO c false 0 t

/-- What is still to be paid before the hop after message `t`. -/
def oweS (t : ℕ) : CellTallies nD τ sig ℕ := oweA c 0 + ∑ u ∈ Finset.Ico t 6, stepO c u

theorem oweS_step {t : ℕ} (ht : t < 6) :
    oweS c t = oweS c (t + 1) + hopO c true 1 t + hopO c false 1 t + hopO c true 0 t + hopO c false 0 t := by
  unfold oweS stepO
  rw [show Finset.Ico t 6 = insert t (Finset.Ico (t + 1) 6) from by
    ext x; simp only [Finset.mem_insert, Finset.mem_Ico]; omega, Finset.sum_insert (by simp)]
  ac_rfl

theorem oweS_end : oweS c 6 = oweA c 0 := by unfold oweS; rw [Finset.Ico_self, Finset.sum_empty, add_zero]

theorem cIdx_eq (d : Bool) (q : Fin 2) (t : ℕ) : cIdx d q t = 6 + 8 * t + 4 * q.val + 2 * d.toNat := rfl

theorem above_stepO {t : ℕ} (ht : t < 6) : Above (6 + 8 * t) (stepO c t) := by
  unfold stepO
  exact (((Above.mono (above_hopO c true 1 ht) (by rw [cIdx_eq]; omega)).add (Above.mono (above_hopO c false 1 ht) (by rw [cIdx_eq]; omega))).add
    (Above.mono (above_hopO c true 0 ht) (by rw [cIdx_eq]; omega))).add (Above.mono (above_hopO c false 0 ht) (by rw [cIdx_eq]; omega))

theorem above_oweS {t : ℕ} (ht : t ≤ 6) : Above (6 + 8 * t) (oweS c t) := by
  unfold oweS
  refine (Above.mono (above_oweA c 0) (by omega)).add (above_sum _ _ fun u hu => ?_)
  rw [Finset.mem_Ico] at hu
  exact Above.mono (above_stepO c hu.2) (by omega)

/-- The four streams. -/
def Strs (t : ℕ) : sProp 𝕄 := iprop(Str c false 0 t ∗ Str c true 0 t ∗ Str c false 1 t ∗ Str c true 1 t)

/-- One step: four hops. -/
theorem wp_step {α : Type} {t : ℕ} (ht : t < 6) (M0 : Memref sig .tc .vmem S4096x512 .f32) (s : Fin 8) (hs : s.val = t + 1)
    (k : PUnit → Pg F α) (Q : α → sProp 𝕄) :
    iprop(records (vals X W) K ∗ Strs c t ∗ Owes c (oweS c t) ∗ ownsTc c M0 fullShare (X c))
      ⊢ iprop(((Strs c (t + 1) ∗ Owes c (oweS c (t + 1)) ∗ ownsTc c M0 fullShare (X c)) -∗ WP c (k ⟨⟩) Q)
        -∗ WP c (stepP M0 c (whi W c) (wlo W c) s >>= k) Q) := by
  have hV : ∀ d q, (vals X W).V c d q (t + 1) = addV q (partV d (whi W c) (wlo W c) (xrows (X c) d c s)) ((vals X W).V (src d c) d q t) := fun d q => by
    have e : Fin.ofNat 8 (t + 1) = s := Fin.ext (by rw [Fin.val_ofNat, hs]; omega)
    show addV q (part X W d c (Fin.ofNat 8 (t + 1))) _ = _
    rw [e]; rfl
  have h0 := above_oweS c (t := t + 1) ht
  have hp : par s.val = par (t + 1) := by rw [hs]
  have a1 : Above (cIdx true 1 t) (oweS c (t + 1) + hopO c true 1 t) :=
    (Above.mono h0 (by rw [cIdx_eq]; show 6 + 8 * t + 4 * 1 + 2 * 1 ≤ _; omega)).add (above_hopO c true 1 ht)
  have a2 : Above (cIdx false 1 t) (oweS c (t + 1) + hopO c true 1 t + hopO c false 1 t) :=
    (Above.mono a1 (by rw [cIdx_eq, cIdx_eq]; show 6 + 8 * t + 4 * 1 + 2 * 0 ≤ 6 + 8 * t + 4 * 1 + 2 * 1; omega)).add (above_hopO c false 1 ht)
  have a3 : Above (cIdx true 0 t) (oweS c (t + 1) + hopO c true 1 t + hopO c false 1 t + hopO c true 0 t) :=
    (Above.mono a2 (by rw [cIdx_eq, cIdx_eq]; show 6 + 8 * t + 4 * 0 + 2 * 1 ≤ 6 + 8 * t + 4 * 1 + 2 * 0; omega)).add (above_hopO c true 0 ht)
  unfold stepP Strs
  rw [oweS_step c ht, hp]
  simp only [Prog.bind_assoc]
  iintro ⟨#HR, ⟨HR0, HL0, HR1, HL1⟩, HO, HM⟩ Hk
  iapply (load_x c M0 false s (X c)) $$ HM; iintro HM
  iapply (load_x c M0 true s (X c)) $$ HM; iintro HM
  iapply (hop (vals X W) K c false 0 ht (Above.mono a3 (by rw [cIdx_eq, cIdx_eq]; show 6 + 8 * t + 4 * 0 + 2 * 0 + 2 ≤ 6 + 8 * t + 4 * 0 + 2 * 1; omega)) _ (hV false 0)) $$ [HR0 HO]
  · isplitr; · iexact HR
    isplitl [HR0]; · iexact HR0
    iexact HO
  iintro ⟨HR0, HO⟩
  iapply (hop (vals X W) K c true 0 ht (Above.mono a2 (by rw [cIdx_eq, cIdx_eq]; show 6 + 8 * t + 4 * 0 + 2 * 1 + 2 ≤ 6 + 8 * t + 4 * 1 + 2 * 0; omega)) _ (hV true 0)) $$ [HL0 HO]
  · isplitr; · iexact HR
    isplitl [HL0]; · iexact HL0
    iexact HO
  iintro ⟨HL0, HO⟩
  iapply (hop (vals X W) K c false 1 ht (Above.mono a1 (by rw [cIdx_eq, cIdx_eq]; show 6 + 8 * t + 4 * 1 + 2 * 0 + 2 ≤ 6 + 8 * t + 4 * 1 + 2 * 1; omega)) _ (hV false 1)) $$ [HR1 HO]
  · isplitr; · iexact HR
    isplitl [HR1]; · iexact HR1
    iexact HO
  iintro ⟨HR1, HO⟩
  iapply (hop (vals X W) K c true 1 ht (Above.mono h0 (by rw [cIdx_eq]; show 6 + 8 * t + 4 * 1 + 2 * 1 + 2 ≤ _; omega)) _ (hV true 1)) $$ [HL1 HO]
  · isplitr; · iexact HR
    isplitl [HL1]; · iexact HL1
    iexact HO
  iintro ⟨HL1, HO⟩
  iapply Hk
  isplitl [HR0 HL0 HR1 HL1]
  · isplitl [HR0]; · iexact HR0
    isplitl [HL0]; · iexact HL0
    isplitl [HR1]; · iexact HR1
    iexact HL1
  isplitl [HO]; · iexact HO
  iexact HM

/-- The steps with hops. -/
def hops : List (Fin 8) := [1, 2, 3, 4, 5, 6]

theorem hops_drop (t : Fin 6) : hops.drop t.val = (⟨t.val + 1, by have := t.isLt; omega⟩ : Fin 8) :: hops.drop (t.val + 1) := by revert t; decide

/-- All of them. -/
theorem wp_steps {α : Type} (M0 : Memref sig .tc .vmem S4096x512 .f32) (k : PUnit → Pg F α) (Q : α → sProp 𝕄) :
    iprop(records (vals X W) K ∗ Strs c 0 ∗ Owes c (oweS c 0) ∗ ownsTc c M0 fullShare (X c))
      ⊢ iprop(((Strs c 6 ∗ Owes c (oweS c 6) ∗ ownsTc c M0 fullShare (X c)) -∗ WP c (k ⟨⟩) Q)
        -∗ WP c (stepsP M0 c (whi W c) (wlo W c) hops >>= k) Q) := by
  have key : ∀ m t, t + m = 6 → (iprop(records (vals X W) K ∗ Strs c t ∗ Owes c (oweS c t) ∗ ownsTc c M0 fullShare (X c))
      ⊢ iprop(((Strs c 6 ∗ Owes c (oweS c 6) ∗ ownsTc c M0 fullShare (X c)) -∗ WP c (k ⟨⟩) Q)
        -∗ WP c (stepsP M0 c (whi W c) (wlo W c) (hops.drop t) >>= k) Q)) := by
    intro m
    induction m with
    | zero =>
      intro t h
      obtain rfl : t = 6 := h
      simp only [show hops.drop 6 = [] from rfl, stepsP, Prog.pure_eq_ret, Prog.bind_ret]
      iintro ⟨-, H⟩ Hk
      iapply Hk; iexact H
    | succ m ih =>
      intro t h
      have ht : t < 6 := by omega
      have h8 : t + 1 < 8 := by omega
      have e := hops_drop ⟨t, ht⟩
      simp only at e
      rw [e]
      simp only [stepsP, Prog.bind_assoc]
      iintro ⟨#HR, H⟩ Hk
      iapply (wp_step X W K c ht M0 ⟨t + 1, h8⟩ rfl) $$ [H]
      · isplitr; · iexact HR
        iexact H
      iintro H
      iapply (ih (t + 1) (by omega)) $$ [H]
      · isplitr; · iexact HR
        iexact H
      iexact Hk
  exact key 6 0 rfl

/-! ## The body -/

/-- What a device owes at the start. -/
def O₀ : CellTallies nD τ sig ℕ :=
  oweS c 0 + firstO c true 1 + firstO c false 1 + firstO c true 0 + firstO c false 0 + tallyAt (cell (tgt false c) .bar) 1 1 + tallyAt (cell (tgt true c) .bar) 1 1

/-- What the streams start from. -/
def Starts : sProp 𝕄 := iprop(Start c false 0 ∗ Start c true 0 ∗ Start c false 1 ∗ Start c true 1)

/-- The slots that are handed to the neighbours. -/
def Lent : sProp 𝕄 := iprop((anyC c false 1 0 ∗ anyC c false 1 1) ∗ anyC c true 1 0 ∗ anyC c true 1 1)

/-- What the protocol gives a device at the start. -/
def bodyPre : sProp 𝕄 :=
  iprop(barRes c ∗ Starts c ∗ Lent c ∗ tailRes c ∗ (∃ Y, ownsTc c (Memref.whole cc0_scratch6) fullShare Y))

/-- The positions in a stream's cells at the end. -/
def posEnd (d : Bool) (q : Fin 2) : sProp 𝕄 := iprop(poss c d q 7 ∗ atPos ER (cell c (.cap d q)) 6 ∅ 0)

/-- What is left of the protocol at the end. -/
def bodyEnd : sProp 𝕄 :=
  iprop(atPos ER (cell c .bar) 1 ∅ 0 ∗ (posEnd c false 0 ∗ posEnd c true 0 ∗ posEnd c false 1 ∗ posEnd c true 1)
    ∗ ((∃ Y, ownsTc c (cmem false) fullShare Y) ∗ (∃ Y, ownsTc c (cmem true) fullShare Y)) ∗ tailDone c)

theorem above_O : Above 2 (oweS c 0 + firstO c true 1 + firstO c false 1 + firstO c true 0 + firstO c false 0) := by
  have h : ∀ d q, Above 2 (firstO c d q) := fun d q =>
    above_tally _ _ _ _ (by unfold mIdx; rw [if_pos rfl]; omega)
      (by unfold mIdx; rw [if_pos rfl]; have := q.isLt; cases d <;> simp only [Bool.toNat_true, Bool.toNat_false] <;> omega)
  exact ((((Above.mono (above_oweS c (by omega)) (by omega)).add (h _ _)).add (h _ _)).add (h _ _)).add (h _ _)

theorem wp_dev {α : Type} (k : Dev nD → Pg F α) (Q : α → sProp 𝕄) : (WP c (k c) Q : sProp 𝕄) ⊢ WP c (.op .deviceId k) Q :=
  Entails.of_eq (wp_deviceId 𝒱₀ (c : Thread nD τ) none Set.univ).symm

set_option maxHeartbeats 1000000 in
/-- The whole body. -/
theorem wp_body (M0 : Memref sig .tc .vmem S4096x512 .f32) (M1 M2 : Memref sig .tc .vmem S512x2048 .f32) (Z : S512x2048.Idx → Elt F .f32) (Q : PUnit → sProp 𝕄) :
    iprop(records (vals X W) K ∗ bodyPre c ∗ Owes c (O₀ c) ∗ ownsTc c M0 fullShare (X c) ∗ ownsTc c M1 fullShare (W c) ∗ ownsTc c M2 fullShare Z)
      ⊢ iprop(((bodyEnd c ∗ Owes c 0 ∗ ownsTc c M0 fullShare (X c) ∗ ownsTc c M1 fullShare (W c) ∗ ownsTc c M2 fullShare (result X W c)) -∗ Q ⟨⟩)
        -∗ WP c (bodyP M0 M1 M2) Q) := by
  unfold bodyP bodyPre Starts Lent O₀
  simp only [Prog.lift, Prog.bind_op, Prog.bind_ret]
  iintro ⟨#HR, ⟨Hbar, ⟨SR0, SL0, SR1, SL1⟩, Hlent, Htail, Hloc⟩, HO, HM0, HM1, HM2⟩ Hk
  iapply (wp_dev c)
  iapply (wp_bar (vals X W) K c (above_O c)) $$ [Hbar HO Hlent]
  · isplitr; · iexact HR
    isplitl [Hbar]; · iexact Hbar
    isplitl [HO]; · iexact HO
    iexact Hlent
  iintro ⟨Hbar, ⟨AR0, AR1⟩, ⟨AL0, AL1⟩, HO⟩
  iapply (load_w c M1 (W c)) $$ HM1; iintro HM1
  iapply (load_w c M1 (W c)) $$ HM1; iintro HM1
  iapply (load_x c M0 false 0 (X c)) $$ HM0; iintro HM0
  iapply (load_x c M0 true 0 (X c)) $$ HM0; iintro HM0
  iapply (first (vals X W) K c false 0 _ _ rfl) $$ [SR0 AR0 HO]
  · isplitr; · iexact HR
    isplitl [SR0]; · iexact SR0
    isplitl [AR0]; · iexact AR0
    iexact HO
  iintro ⟨SR0, HO⟩
  iapply (first (vals X W) K c true 0 _ _ rfl) $$ [SL0 AL0 HO]
  · isplitr; · iexact HR
    isplitl [SL0]; · iexact SL0
    isplitl [AL0]; · iexact AL0
    iexact HO
  iintro ⟨SL0, HO⟩
  iapply (first (vals X W) K c false 1 _ _ rfl) $$ [SR1 AR1 HO]
  · isplitr; · iexact HR
    isplitl [SR1]; · iexact SR1
    isplitl [AR1]; · iexact AR1
    iexact HO
  iintro ⟨SR1, HO⟩
  iapply (first (vals X W) K c true 1 _ _ rfl) $$ [SL1 AL1 HO]
  · isplitr; · iexact HR
    isplitl [SL1]; · iexact SL1
    isplitl [AL1]; · iexact AL1
    iexact HO
  iintro ⟨SL1, HO⟩
  iapply (wp_steps X W K c M0) $$ [SR0 SL0 SR1 SL1 HO HM0]
  · isplitr; · iexact HR
    isplitl [SR0 SL0 SR1 SL1]
    · unfold Strs
      isplitl [SR0]; · iexact SR0
      isplitl [SL0]; · iexact SL0
      isplitl [SR1]; · iexact SR1
      iexact SL1
    isplitl [HO]; · iexact HO
    iexact HM0
  unfold Strs
  rw [oweS_end]
  iintro ⟨⟨SR0, SL0, SR1, SL1⟩, HO, HM0⟩
  iapply (load_x c M0 false 7 (X c)) $$ HM0; iintro HM0
  iapply (load_x c M0 true 7 (X c)) $$ HM0; iintro HM0
  iapply (last (vals X W) K c false 0 (above_oweA c 0)) $$ [SR0 HO]
  · isplitr; · iexact HR
    isplitl [SR0]; · iexact SR0
    iexact HO
  unfold Done
  iintro ⟨⟨PR0, CR0, -, OR0, IR0⟩, HO⟩
  iapply (last (vals X W) K c false 1 (above_oweA c 0)) $$ [SR1 HO]
  · isplitr; · iexact HR
    isplitl [SR1]; · iexact SR1
    iexact HO
  unfold Done
  iintro ⟨⟨PR1, CR1, -, OR1, IR1⟩, HO⟩
  ihave HBR := (end_join (vals X W) c false) $$ [OR0 IR0 OR1 IR1]
  · isplitl [OR0 IR0]
    · isplitl [OR0]; · iexact OR0
      iexact IR0
    isplitl [OR1]; · iexact OR1
    iexact IR1
  iapply (load_last (vals X W) c false) $$ HBR; iintro HBR
  iapply (last (vals X W) K c true 0 (above_oweA c 0)) $$ [SL0 HO]
  · isplitr; · iexact HR
    isplitl [SL0]; · iexact SL0
    iexact HO
  unfold Done
  iintro ⟨⟨PL0, CL0, Hkept, OL0, IL0⟩, HO⟩
  iapply (last (vals X W) K c true 1 (above_oweA c 0)) $$ [SL1 HO]
  · isplitr; · iexact HR
    isplitl [SL1]; · iexact SL1
    iexact HO
  unfold Done
  iintro ⟨⟨PL1, CL1, -, OL1, IL1⟩, HO⟩
  ihave HBL := (end_join (vals X W) c true) $$ [OL0 IL0 OL1 IL1]
  · isplitl [OL0 IL0]
    · isplitl [OL0]; · iexact OL0
      iexact IL0
    isplitl [OL1]; · iexact OL1
    iexact IL1
  iapply (load_last (vals X W) c true) $$ HBL; iintro HBL
  rw [← Prog.bind_pure (tailP _ _ _ _ _ _)]
  iapply (tail (vals X W) K c M2 _ _ _ _ rfl Z) $$ [Hloc Hkept Htail HM2 HO]
  · isplitr; · iexact HR
    isplitl [Hloc]; · iexact Hloc
    isplitl [Hkept]; · iexact Hkept
    isplitl [Htail]; · iexact Htail
    isplitl [HM2]; · iexact HM2
    iexact HO
  iintro ⟨Htail, HM2, HO⟩
  iapply (le_wp_ret)
  iapply Hk
  unfold bodyEnd posEnd
  isplitr [HO HM0 HM1 HM2]
  · isplitl [Hbar]; · iexact Hbar
    isplitl [PR0 CR0 PR1 CR1 PL0 CL0 PL1 CL1]
    · isplitl [PR0 CR0]
      · isplitl [PR0]; · iexact PR0
        iexact CR0
      isplitl [PL0 CL0]
      · isplitl [PL0]; · iexact PL0
        iexact CL0
      isplitl [PR1 CR1]
      · isplitl [PR1]; · iexact PR1
        iexact CR1
      isplitl [PL1]; · iexact PL1
      iexact CL1
    isplitl [HBR HBL]
    · isplitl [HBR]; · iexists _; iexact HBR
      iexists _; iexact HBL
    iexact Htail
  isplitl [HO]; · iexact HO
  isplitl [HM0]; · iexact HM0
  isplitl [HM1]; · iexact HM1
  iexact HM2

end Cert.KernelIdeal.Ring

end
-- ==== Proof.Deal.lean ====
/- The launch's share of the protocol: the cells and the duty tokens as they are minted, how the tokens
   are dealt to the devices that pay with them, the credits, and the cells' invariants. -/
module

public import proofs.«01_k».proof.Proof.Body
public import proofs.«01_k».proof.Proof.Gen.KernelIdeal.Frame

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The cells, kind by kind -/

/-- The four streams, conjoined. -/
theorem four_sep (Φ : Bool × Fin 2 → sProp 𝕄) :
    bigSep Finset.univ Φ = iprop(Φ (false, 0) ∗ Φ (true, 0) ∗ Φ (false, 1) ∗ Φ (true, 1)) :=
  bigSep_univ_eq_bigSepL [(false, 0), (true, 0), (false, 1), (true, 1)] (by decide) (by decide) Φ

theorem bool_sep (Φ : Bool → sProp 𝕄) : bigSep Finset.univ Φ = iprop(Φ false ∗ Φ true) :=
  bigSep_univ_eq_bigSepL [false, true] (by decide) (by decide) Φ

theorem two_sep (Φ : Fin 2 → sProp 𝕄) : bigSep Finset.univ Φ = iprop(Φ 0 ∗ Φ 1) :=
  bigSep_univ_eq_bigSepL [0, 1] (by decide) (by decide) Φ

theorem three_sep (Φ : Fin 3 → sProp 𝕄) : bigSep Finset.univ Φ = iprop(Φ 0 ∗ Φ 1 ∗ Φ 2) :=
  bigSep_univ_eq_bigSepL [0, 1, 2] (by decide) (by decide) Φ

theorem unit_sep (Φ : Unit → sProp 𝕄) : bigSep Finset.univ Φ = Φ () :=
  bigSep_univ_eq_bigSepL [()] (by decide) (by decide) Φ

/-- The cells other than the barrier's. -/
abbrev Own : Type := ((Bool × Fin 2) × (Fin 2 ⊕ Fin 2 ⊕ Unit)) ⊕ (Fin 7 × Bool)

/-- Their semaphores. -/
abbrev osem (x : Own) : SemLoc sig := csem (kdEquiv (.inr x))

theorem kd_own (Φ : Kd → sProp 𝕄) :
    bigSep Finset.univ Φ = iprop(Φ .bar ∗ bigSep Finset.univ fun x : Own => Φ (kdEquiv (.inr x))) := by
  rw [bigSep_univ_equiv kdEquiv Φ, BI.bigSep_univ_sum (fun x : KdSum => Φ (kdEquiv x)), unit_sep]
  rfl

/-- A stream's cells. -/
def strK (Φ : Kd → sProp 𝕄) (d : Bool) (q : Fin 2) : sProp 𝕄 :=
  iprop((Φ (.snd d 0 q) ∗ Φ (.snd d 1 q)) ∗ (Φ (.rcv d 0 q) ∗ Φ (.rcv d 1 q)) ∗ Φ (.cap d q))

theorem kd_sep (Φ : Kd → sProp 𝕄) :
    bigSep Finset.univ Φ = iprop(Φ .bar ∗ (strK Φ false 0 ∗ strK Φ true 0 ∗ strK Φ false 1 ∗ strK Φ true 1)
      ∗ bigSep Finset.univ fun k : Fin 7 => iprop(Φ (.asnd k) ∗ Φ (.arcv k))) := by
  rw [kd_own, BI.bigSep_univ_sum (fun x : Own => Φ (kdEquiv (.inr x))),
    bigSep_univ_prod (fun x : (Bool × Fin 2) × (Fin 2 ⊕ Fin 2 ⊕ Unit) => Φ (kdEquiv (.inr (.inl x)))),
    bigSep_univ_prod (fun x : Fin 7 × Bool => Φ (kdEquiv (.inr (.inr x)))), four_sep]
  simp only [BI.bigSep_univ_sum, two_sep, unit_sep, bool_sep]
  rfl

/-! ## The cells and the tokens as minted -/

theorem kcell_injective : Function.Injective fun x : Dev nD × Kd => cell x.1 x.2 := fun x y h =>
  Prod.ext (cell_inj h).1 (cell_inj h).2

def ringCells : Finset (GSem nD τ sig) := Finset.univ.map ⟨fun x : Dev nD × Kd => cell x.1 x.2, kcell_injective⟩

/-- The duties of a device's cells: the barrier's two; per stream the first message's two and, for each hop, the
    slot's, the sent message's two; per partner the two of the maximum. -/
abbrev TI : Type := Bool ⊕ ((Bool × Fin 2) × (Bool ⊕ (Fin 6 × Fin 3))) ⊕ (Fin 7 × Bool)

def tk : TI → Kd × ℕ × Bool
  | .inl b => (.bar, 0, b)
  | .inr (.inl (dq, .inl false)) => (.snd dq.1 (par 0) dq.2, 0, false)
  | .inr (.inl (dq, .inl true)) => (.rcv dq.1 (par 1) dq.2, 0, false)
  | .inr (.inl (dq, .inr (t, 0))) => (.cap dq.1 dq.2, t.val, false)
  | .inr (.inl (dq, .inr (t, 1))) => (.snd dq.1 (par (t.val + 1)) dq.2, (t.val + 1) / 2, false)
  | .inr (.inl (dq, .inr (t, 2))) => (.rcv dq.1 (par t.val) dq.2, (t.val + 1) / 2, false)
  | .inr (.inr (k, false)) => (.asnd k, 0, false)
  | .inr (.inr (k, true)) => (.arcv k, 0, false)

theorem tk_injective : Function.Injective tk := by decide +kernel

theorem tokOf_injective : Function.Injective fun x : Dev nD × TI => ((cell x.1 (tk x.2).1, (tk x.2).2) : GSem nD τ sig × ℕ × Bool) := by
  rintro ⟨c, i⟩ ⟨c', i'⟩ h
  have h1 := cell_inj (congrArg Prod.fst h)
  have h2 := congrArg Prod.snd h
  exact Prod.ext h1.1 (tk_injective (Prod.ext h1.2 h2))

def ringToks : Finset (GSem nD τ sig × ℕ × Bool) :=
  Finset.univ.map ⟨fun x : Dev nD × TI => ((cell x.1 (tk x.2).1, (tk x.2).2) : GSem nD τ sig × ℕ × Bool), tokOf_injective⟩

def u₀ : UU :=
  (initOf (Pipeline.cells cfgs cellOf_inj) (Pipeline.launchToks cfgs cellOf_inj), initOf ringCells ringToks)

/-- The token of a duty of device `c`'s cells. -/
def tokAt (c : Dev nD) (i : TI) : sProp 𝕄 := dutyTok ER (cell c (tk i).1) (tk i).2.1 (tk i).2.2

/-- Whose duty a payer pays. -/
def pal : TI → (Dev nD ≃ Dev nD)
  | .inl b => along (!b)
  | .inr (.inl (dq, .inl false)) => Equiv.refl _
  | .inr (.inl (dq, .inl true)) => along dq.1
  | .inr (.inl (dq, .inr (t, 0))) => along (!dq.1)
  | .inr (.inl (dq, .inr (t, 1))) => Equiv.refl _
  | .inr (.inl (dq, .inr (t, 2))) => along dq.1
  | .inr (.inr (k, false)) => Equiv.refl _
  | .inr (.inr (k, true)) => around k

/-- Payers and duties against owners and duties. -/
def dealt : Dev nD × TI ≃ Dev nD × TI where
  toFun x := (pal x.2 x.1, x.2)
  invFun x := ((pal x.2).symm x.1, x.2)
  left_inv x := Prod.ext ((pal x.2).symm_apply_apply x.1) rfl
  right_inv x := Prod.ext ((pal x.2).apply_symm_apply x.1) rfl

theorem toks_around :
    (bigSep Finset.univ fun c : Dev nD => bigSep Finset.univ fun i : TI => (tokAt c i : sProp 𝕄))
      = bigSep Finset.univ fun c : Dev nD => bigSep Finset.univ fun i : TI => tokAt (pal i c) i := by
  rw [← bigSep_univ_prod (fun x : Dev nD × TI => (tokAt x.1 x.2 : sProp 𝕄)), bigSep_univ_equiv dealt, bigSep_univ_prod]
  rfl

/-- The tokens of one stream. -/
def strTok (c : Dev nD) (d : Bool) (q : Fin 2) : sProp 𝕄 :=
  iprop((dutyTok ER (cell c (.snd d (par 0) q)) 0 false ∗ dutyTok ER (cell (tgt d c) (.rcv d (par 1) q)) 0 false)
    ∗ bigSep (Finset.Ico 0 6) fun t => iprop(dutyTok ER (cell (src d c) (.cap d q)) t false
      ∗ dutyTok ER (cell c (.snd d (par (t + 1)) q)) ((t + 1) / 2) false ∗ dutyTok ER (cell (tgt d c) (.rcv d (par t) q)) ((t + 1) / 2) false))

theorem ico_sep (Φ : ℕ → sProp 𝕄) : bigSep (Finset.Ico 0 6) Φ = bigSep Finset.univ fun t : Fin 6 => Φ t.val := by
  rw [show Finset.Ico 0 6 = (Finset.univ : Finset (Fin 6)).map Fin.valEmbedding from by decide, bigSep_map]
  rfl

theorem toks_split (c : Dev nD) :
    (bigSep Finset.univ fun i : TI => (tokAt (pal i c) i : sProp 𝕄))
      = iprop((dutyTok ER (cell (tgt true c) .bar) 0 false ∗ dutyTok ER (cell (tgt false c) .bar) 0 true)
        ∗ (strTok c false 0 ∗ strTok c true 0 ∗ strTok c false 1 ∗ strTok c true 1)
        ∗ bigSep Finset.univ fun k : Fin 7 => iprop(dutyTok ER (cell c (.asnd k)) 0 false ∗ dutyTok ER (cell (adev c k) (.arcv k)) 0 false)) := by
  unfold strTok
  simp only [ico_sep, adev_eq]
  rw [BI.bigSep_univ_sum (fun i : TI => (tokAt (pal i c) i : sProp 𝕄)),
    BI.bigSep_univ_sum (fun i : ((Bool × Fin 2) × (Bool ⊕ (Fin 6 × Fin 3))) ⊕ (Fin 7 × Bool) => (tokAt (pal (.inr i) c) (.inr i) : sProp 𝕄)),
    bigSep_univ_prod (fun x : (Bool × Fin 2) × (Bool ⊕ (Fin 6 × Fin 3)) => (tokAt (pal (.inr (.inl x)) c) (.inr (.inl x)) : sProp 𝕄)),
    bigSep_univ_prod (fun x : Fin 7 × Bool => (tokAt (pal (.inr (.inr x)) c) (.inr (.inr x)) : sProp 𝕄)), four_sep]
  simp only [BI.bigSep_univ_sum, bigSep_univ_prod, three_sep, bool_sep]
  rfl

/-! ## The credits -/

theorem cred_at (σ : Dev nD ≃ Dev nD) (κ : Kd) (ι k : ℕ) (c : Dev nD) :
    (Pipeline.launchCred (fun d => tallyAt (cell (σ d) κ) ι k) c : sProp 𝕄) ⊢ cred (tallyAt (cell c κ) ι k) := by
  refine (Pipeline.launchCred_elim _ c (csem κ)).trans (Entails.of_eq (congrArg cred ?_))
  show tallyOn (cell c κ) _ = tallyOn (cell c κ) (Finsupp.single ι k)
  refine congrArg _ (Finsupp.ext fun u => ?_)
  rw [Pipeline.launchCredit_owing, Finset.sum_eq_single (σ.symm c)]
  · rw [Equiv.apply_symm_apply, tallyAt_apply, Finsupp.single_apply]
    by_cases h : u = ι
    · rw [if_pos ⟨rfl, h⟩, if_pos h.symm]
    · rw [if_neg fun h' => h h'.2, if_neg fun h' => h h'.symm]
  · intro d _ hd
    rw [tallyAt_apply, if_neg]
    intro h
    exact hd ((Equiv.symm_apply_eq σ).mpr (cell_inj h.1).1).symm
  · intro h; exact absurd (Finset.mem_univ _) h

/-- The credits of one stream. -/
def strCred (c : Dev nD) (d : Bool) (q : Fin 2) : sProp 𝕄 :=
  iprop(cred (tallyAt (cell c (.rcv d (par 1) q)) (mIdx d q 0) NC)
    ∗ bigSep (Finset.Ico 0 6) fun t => iprop(cred (tallyAt (cell c (.cap d q)) (cIdx d q t) 1)
      ∗ cred (tallyAt (cell c (.rcv d (par t) q)) (mIdx d q (t + 1)) NC)))

theorem cred_first (c : Dev nD) (d : Bool) (q : Fin 2) :
    (Pipeline.launchCred (fun c => firstO c d q) c : sProp 𝕄) ⊢ cred (tallyAt (cell c (.rcv d (par 1) q)) (mIdx d q 0) NC) :=
  cred_at (along d) (.rcv d (par 1) q) _ _ c

theorem cred_hop (c : Dev nD) (d : Bool) (q : Fin 2) (t : ℕ) :
    (Pipeline.launchCred (fun c => hopO c d q t) c : sProp 𝕄)
      ⊢ iprop(cred (tallyAt (cell c (.cap d q)) (cIdx d q t) 1) ∗ cred (tallyAt (cell c (.rcv d (par t) q)) (mIdx d q (t + 1)) NC)) := by
  unfold hopO
  rw [Pipeline.launchCred_add]
  iintro ⟨H1, H2⟩
  isplitl [H2]
  · iapply (cred_at (F := F) (along (!d)) (.cap d q) (cIdx d q t) 1 c); iexact H2
  · iapply (cred_at (F := F) (along d) (.rcv d (par t) q) (mIdx d q (t + 1)) NC c); iexact H1

theorem cred_hops (c : Dev nD) (d : Bool) (q : Fin 2) :
    (bigSep (Finset.Ico 0 6) fun t => (Pipeline.launchCred (fun c => hopO c d q t) c : sProp 𝕄))
      ⊢ bigSep (Finset.Ico 0 6) fun t => iprop(cred (tallyAt (cell c (.cap d q)) (cIdx d q t) 1)
        ∗ cred (tallyAt (cell c (.rcv d (par t) q)) (mIdx d q (t + 1)) NC)) :=
  bigSep_mono fun t _ => cred_hop c d q t

theorem cred_step (c : Dev nD) (t : ℕ) :
    (Pipeline.launchCred (fun c => stepO c t) c : sProp 𝕄)
      = iprop(((Pipeline.launchCred (fun c => hopO c true 1 t) c ∗ Pipeline.launchCred (fun c => hopO c false 1 t) c)
        ∗ Pipeline.launchCred (fun c => hopO c true 0 t) c) ∗ Pipeline.launchCred (fun c => hopO c false 0 t) c) := by
  unfold stepO
  rw [Pipeline.launchCred_add, Pipeline.launchCred_add, Pipeline.launchCred_add]

theorem cred_max (c : Dev nD) :
    (Pipeline.launchCred (fun c => oweA c 0) c : sProp 𝕄) ⊢ bigSep Finset.univ fun k : Fin 7 => cred (tallyAt (cell c (.arcv k)) (54 + k.val) NA) := by
  unfold oweA
  rw [Pipeline.launchCred_sum, up_zero]
  refine bigSep_mono fun k _ => ?_
  simp only [adev_eq]
  exact cred_at (around k) (.arcv k) _ _ c

theorem cred_steps (c : Dev nD) :
    (Pipeline.launchCred (fun c => oweS c 0) c : sProp 𝕄)
      = iprop(Pipeline.launchCred (fun c => oweA c 0) c ∗ bigSep (Finset.Ico 0 6) fun t => Pipeline.launchCred (fun c => stepO c t) c) := by
  unfold oweS
  rw [Pipeline.launchCred_add, Pipeline.launchCred_sum]

theorem creds (c : Dev nD) :
    (Pipeline.launchCred O₀ c : sProp 𝕄) ⊢ iprop(cred (tallyAt (cell c .bar) 1 2)
      ∗ (strCred c false 0 ∗ strCred c true 0 ∗ strCred c false 1 ∗ strCred c true 1)
      ∗ bigSep Finset.univ fun k : Fin 7 => cred (tallyAt (cell c (.arcv k)) (54 + k.val) NA)) := by
  rw [show O₀ = fun c => oweS c 0 + firstO c true 1 + firstO c false 1 + firstO c true 0 + firstO c false 0
      + tallyAt (cell (tgt false c) .bar) 1 1 + tallyAt (cell (tgt true c) .bar) 1 1 from rfl]
  rw [Pipeline.launchCred_add, Pipeline.launchCred_add, Pipeline.launchCred_add, Pipeline.launchCred_add, Pipeline.launchCred_add,
    Pipeline.launchCred_add, cred_steps]
  simp only [cred_step]
  unfold strCred
  iintro ⟨⟨⟨⟨⟨⟨⟨HA, HS⟩, HL1⟩, HR1⟩, HL0⟩, HR0⟩, HB0⟩, HB1⟩
  ihave HS := (unzip_sep (F := F) (Finset.Ico 0 6) _ _) $$ HS
  icases HS with ⟨HS, SR0⟩
  ihave HS := (unzip_sep (F := F) (Finset.Ico 0 6) _ _) $$ HS
  icases HS with ⟨HS, SL0⟩
  ihave HS := (unzip_sep (F := F) (Finset.Ico 0 6) _ _) $$ HS
  icases HS with ⟨SL1, SR1⟩
  isplitl [HB0 HB1]
  · iapply (show iprop(cred (tallyAt (cell c .bar) 1 1) ∗ cred (tallyAt (cell c .bar) 1 1)) ⊢ (cred (tallyAt (cell c .bar) 1 2) : sProp 𝕄) from by
      rw [← tallyAt_add (cell c .bar) 1 1 1]; exact (cred_add _ _).2)
    isplitl [HB0]
    · iapply (cred_at (F := F) (along false) .bar 1 1 c); iexact HB0
    · iapply (cred_at (F := F) (along true) .bar 1 1 c); iexact HB1
  isplitl [HL0 HL1 HR0 HR1 SL0 SL1 SR0 SR1]
  · isplitl [HR0 SR0]
    · isplitl [HR0]; · iapply (cred_first (F := F) c false 0); iexact HR0
      iapply (cred_hops (F := F) c false 0); iexact SR0
    isplitl [HL0 SL0]
    · isplitl [HL0]; · iapply (cred_first (F := F) c true 0); iexact HL0
      iapply (cred_hops (F := F) c true 0); iexact SL0
    isplitl [HR1 SR1]
    · isplitl [HR1]; · iapply (cred_first (F := F) c false 1); iexact HR1
      iapply (cred_hops (F := F) c false 1); iexact SR1
    isplitl [HL1]; · iapply (cred_first (F := F) c true 1); iexact HL1
    iapply (cred_hops (F := F) c true 1); iexact SL1
  iapply (cred_max (F := F) c); iexact HA

end Cert.KernelIdeal.Ring

end
-- ==== Proof.Start.lean ====
/- The launch: what every device starts from, the body against its staging buffers, and the run of the whole
   mesh. -/
module

public import proofs.«01_k».proof.Proof.Deal

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section Ghost

variable (v : Vals F)

/-- What the launch element deals device `c`. -/
def G (c : Dev nD) : sProp 𝕄 :=
  iprop((bigSep Finset.univ fun κ : Kd => roundState ER (rd v) (cell c κ) 0)
    ∗ (bigSep Finset.univ fun κ : Kd => iprop(atPos ER (cell c κ) 0 ∅ 0 ∗ reached ER (cell c κ) 0))
    ∗ bigSep Finset.univ fun i : TI => tokAt c i)

theorem fund_ring : BI.own (ER (initOf ringCells ringToks)) ⊢ (|==> bigSep Finset.univ (G v) : sProp 𝕄) := by
  have hX (Φ : GSem nD τ sig → sProp 𝕄) :
      bigSep ringCells Φ = bigSep Finset.univ fun c : Dev nD => bigSep Finset.univ fun κ : Kd => Φ (cell c κ) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun i : TI => tokAt c i := by
    unfold ringToks; rw [bigSep_map, bigSep_univ_prod]; rfl
  iintro HX
  imod (Rounds.fund ER (rd v) ringCells ringToks) $$ HX with ⟨Hst, Hr, Hat, Htok⟩
  imodintro
  ihave Hst' := (Entails.of_eq (hX fun g => roundState ER (rd v) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (cell c .bar) 0 := by
  unfold unscopedSems0; rw [bigSep_eq_bigSepL_of_eq [SemLoc.reg barrier0] (by decide) (by decide)]; rfl

theorem sems0_eq (c : Dev nD) :
    iprop(unscopedSems0 c ∗ Pipeline.ownSems0 (Ix := ℕ) (Name := ℕ) (U := UU) (Lvl := ℕ) (Val := Elt F) (τ := τ) osem c)
      = (bigSep Finset.univ fun κ : Kd => semVal (cell c κ) 0 : sProp 𝕄) := by
  rw [kd_own, unscopedSems0_eq]; rfl

theorem core_alloc (c : Dev nD) :
    iprop(Pipeline.ownSems0 (Ix := ℕ) (Name := ℕ) (U := UU) (Lvl := ℕ) (Val := Elt F) (τ := τ) osem c ∗ unscopedSems0 c ∗ G v c)
      ⊢ |={Set.univ}=> iprop((bigSep Finset.univ fun κ => iprop(∃ n : ℕ, cellInv ER (rd v) n (cell c κ)))
          ∗ (bigSep Finset.univ fun κ => iprop(atPos ER (cell c κ) 0 ∅ 0 ∗ reached ER (cell c κ) 0)) ∗ bigSep Finset.univ fun i : TI => tokAt c i) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun κ : Kd => semVal (cell c κ) 0) ∗ bigSep Finset.univ fun κ : Kd => roundState ER (rd v) (cell c κ) 0)
      ⊢ (|={Set.univ}=> bigSep Finset.univ fun κ => iprop(∃ n : ℕ, cellInv ER (rd v) n (cell c κ)) : sProp 𝕄) from by
        rw [← bigSep_sep']
        exact (bigSep_mono fun κ _ => (Rounds.body_intro ER (rd v) (cell c κ)).trans inv_alloc).trans (bigSep_fupd _ _)) $$ [Hv Hst] with Hinv
  · isplitl [Hv] <;> iassumption
  imodintro
  isplitl [Hinv]; · iexact Hinv
  isplitl [Hat]; · iexact Hat
  iexact Htok

/-- The cells' invariants and first rounds, before the levels are known. -/
def marks (K : Dev nD × Kd → ℕ) : sProp 𝕄 :=
  iprop((bigSep Finset.univ fun x : Dev nD × Kd => cellInv ER (rd v) (K x) (cell x.1 x.2))
    ∗ bigSep Finset.univ fun x : Dev nD × Kd => reached ER (cell x.1 x.2) 0)

instance marks_persistent (K : Dev nD × Kd → ℕ) : BI.Persistent (marks v K) := by unfold marks; infer_instance

/-- What stays with a device: its positions and the tokens of the duties it pays. -/
def linear (c : Dev nD) : sProp 𝕄 :=
  iprop((bigSep Finset.univ fun κ : Kd => atPos ER (cell c κ) 0 ∅ 0) ∗ bigSep Finset.univ fun i : TI => tokAt (pal i c) i)

/-- What the global step makes of the dealt state. -/
def G' (c : Dev nD) : sProp 𝕄 := iprop(∃ K, marks v K ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun κ => iprop(∃ n : ℕ, cellInv ER (rd v) n (cell c κ)))
          ∗ (bigSep Finset.univ fun κ => iprop(atPos ER (cell c κ) 0 ∅ 0 ∗ reached ER (cell c κ) 0)) ∗ bigSep Finset.univ fun i : TI => tokAt c i) : sProp 𝕄)
      ⊢ bigSep Finset.univ (G' v) := by
  rw [bigSep_sep', bigSep_sep', ← bigSep_univ_prod (fun x : Dev nD × Kd => iprop(∃ n : ℕ, cellInv ER (rd v) n (cell x.1 x.2))),
    bigSep_congr (s := Finset.univ) (fun (c : Dev nD) _ => bigSep_sep' Finset.univ (fun κ : Kd => (atPos ER (cell c κ) 0 ∅ 0 : sProp 𝕄)) (fun κ => reached ER (cell c κ) 0)),
    bigSep_sep', ← bigSep_univ_prod (fun x : Dev nD × Kd => (reached ER (cell x.1 x.2) 0 : sProp 𝕄)), toks_around]
  iintro ⟨HI, ⟨Hat, #HR⟩, Htok⟩
  ihave HK := (BI.bigSep_exists_pi Finset.univ (fun (x : Dev nD × Kd) (n : ℕ) => (cellInv ER (rd v) n (cell x.1 x.2) : sProp 𝕄))) $$ HI
  icases HK with ⟨%K, #HI⟩
  iapply (with_persistent (R := marks v K) (Φ := linear) fun c _ => show iprop(marks v K ∗ linear c) ⊢ G' v c from by
    unfold G'
    iintro H
    iexists K
    iexact H)
  isplitr
  · unfold marks; isplitl; · iexact HI
    iexact HR
  · unfold linear
    rw [bigSep_sep']
    isplitl [Hat]; · iexact Hat
    iexact Htok

/-- The global step. -/
theorem glob : (bigSep Finset.univ fun c => iprop(Pipeline.ownSems0 (Ix := ℕ) (Name := ℕ) (U := UU) (Lvl := ℕ) (Val := Elt F) (τ := τ) osem c ∗ unscopedSems0 c ∗ G v c) : sProp 𝕄)
    ⊢ |={Set.univ}=> bigSep Finset.univ (G' v) :=
  ((bigSep_mono fun c _ => core_alloc v c).trans (bigSep_fupd _ _)).trans (BI.fupd_mono (regroup v))

/-! ## From the dealt state to the body's -/

/-- A buffer of a device, whatever it holds. -/
def anyB (c : Dev nD) (b : Ref sig .tc) : sProp 𝕄 := iprop(∃ f : Buf (Elt F) ((c : Thread nD τ).loc b), ((c : Thread nD τ).loc b) ↦{fullShare} f)

theorem whole_in (c : Dev nD) (b : Ref sig .tc) : (anyB c b : sProp 𝕄) ⊢ iprop(∃ X, ownsTc c (Memref.whole b) fullShare X) := by
  unfold anyB
  iintro ⟨%f, H⟩
  iexists f
  iapply (Entails.of_eq (owns_whole_eq (c : Thread nD τ) b fullShare f).symm)
  iexists f
  isplitr; · ipureintro; rfl
  iexact H

theorem whole_out (c : Dev nD) (b : Ref sig .tc) : (iprop(∃ X, ownsTc c (Memref.whole b) fullShare X) : sProp 𝕄) ⊢ anyB c b := by
  unfold anyB
  iintro ⟨%X, H⟩
  ihave H := (Entails.of_eq (owns_whole_eq (c : Thread nD τ) b fullShare X)) $$ H
  icases H with ⟨%f, -, H⟩
  iexists f; iexact H

theorem comm_split (c : Dev nD) (d : Bool) :
    (iprop(∃ Y, ownsTc c (cmem d) fullShare Y) : sProp 𝕄)
      ⊢ iprop((anyC c d 0 0 ∗ anyC c d 0 1) ∗ anyC c d 1 0 ∗ anyC c d 1 1) := by
  iintro ⟨%Y, H⟩
  have hs : ∀ t : Fin 2 × Fin 2, (ownsTc c (chunk d t.1 t.2) fullShare (fun j => Y ((crect t.1 t.2).emb j)) : sProp 𝕄) ⊢ anyC c d t.1 t.2 := fun t => by
    unfold anyC
    iintro H
    iexists _; iexact H
  ihave H := ((owns_rects (Val := Elt F) (Ix := ℕ) (Name := ℕ) (U := UU) (Lvl := ℕ) (c : Thread nD τ) (cmem d) fullShare
    (fun t : Fin 2 × Fin 2 => crect t.1 t.2) (fun _ _ => rfl) crect_disjoint crect_cover Y).trans (bigSep_mono fun t _ => hs t)) $$ H
  ihave H := (Entails.of_eq (show (bigSep Finset.univ fun t : Fin 2 × Fin 2 => (anyC c d t.1 t.2 : sProp 𝕄))
    = iprop(anyC c d 0 0 ∗ anyC c d 0 1 ∗ anyC c d 1 0 ∗ anyC c d 1 1) from
      bigSep_univ_eq_bigSepL [((0 : Fin 2), (0 : Fin 2)), (0, 1), (1, 0), (1, 1)] (by decide) (by decide) _)) $$ H
  icases H with ⟨H1, H2, H3, H4⟩
  isplitl [H1 H2]
  · isplitl [H1]; · iexact H1
    iexact H2
  isplitl [H3]; · iexact H3
  iexact H4

theorem rows_split (c : Dev nD) :
    (iprop(∃ Y, ownsTc c (Memref.whole cc0_scratch7) fullShare Y) : sProp 𝕄) ⊢ carry c true 0 0 := by
  iintro ⟨%Y, H⟩
  ihave H := (owns_rects (Val := Elt F) (Ix := ℕ) (Name := ℕ) (U := UU) (Lvl := ℕ) (c : Thread nD τ) (Memref.whole cc0_scratch7) fullShare
    arect (fun _ _ => rfl) arect_disjoint arect_cover Y) $$ H
  unfold carry
  rw [if_pos ⟨rfl, rfl⟩, show (Finset.univ.filter fun k : Fin 7 => 0 ≤ k.val) = Finset.univ by decide, shift_zero]
  have hs : ∀ k : Fin 7, (ownsTc c (arow k) fullShare (fun j => Y ((arect k).emb j)) : sProp 𝕄) ⊢ anyA c k := fun k => by
    unfold anyA
    iintro H
    iexists _; iexact H
  iapply (show (bigSep Finset.univ fun k : Fin 7 => (ownsTc c (arow k) fullShare (fun j => Y ((arect k).emb j)) : sProp 𝕄))
      ⊢ bigSep Finset.univ fun k : Fin 7 => anyA c k from bigSep_mono fun k _ => hs k)
  iexact H

theorem hop_in (c : Dev nD) (d : Bool) (q : Fin 2) (t : ℕ) :
    iprop((dutyTok ER (cell (src d c) (.cap d q)) t false
        ∗ dutyTok ER (cell c (.snd d (par (t + 1)) q)) ((t + 1) / 2) false ∗ dutyTok ER (cell (tgt d c) (.rcv d (par t) q)) ((t + 1) / 2) false)
        ∗ cred (tallyAt (cell c (.cap d q)) (cIdx d q t) 1) ∗ cred (tallyAt (cell c (.rcv d (par t) q)) (mIdx d q (t + 1)) NC))
      ⊢ (hopRes c d q t : sProp 𝕄) := by
  unfold hopRes
  iintro ⟨⟨H1, H2, H3⟩, H4, H5⟩
  isplitl [H1]; · iexact H1
  isplitl [H4]; · iexact H4
  isplitl [H2]; · iexact H2
  isplitl [H3]; · iexact H3
  iexact H5

/-- One stream's start. -/
theorem start_in (c : Dev nD) (d : Bool) (q : Fin 2) :
    iprop(strK (fun κ => atPos ER (cell c κ) 0 ∅ 0) d q ∗ strTok c d q ∗ strCred c d q ∗ anyC c d 0 q ∗ carry c d q 0)
      ⊢ (Start c d q : sProp 𝕄) := by
  unfold strK strTok strCred Start poss
  iintro ⟨⟨⟨PS0, PS1⟩, ⟨PR0, PR1⟩, PC⟩, ⟨⟨T0, T1⟩, HT⟩, ⟨C0, HC⟩, HA, HK⟩
  isplitl [PS0 PS1 PR0 PR1]
  · isplitl [PS0]; · iexact PS0
    isplitl [PS1]; · iexact PS1
    isplitl [PR1]; · iexact PR1
    iexact PR0
  isplitl [PC]; · iexact PC
  isplitl [HT HC]
  · ihave H := (zip_sep (F := F) (Finset.Ico 0 6) _ _) $$ [HT HC]
    · isplitl [HT]; · iexact HT
      iexact HC
    iapply (show (bigSep (Finset.Ico 0 6) fun t => iprop((dutyTok ER (cell (src d c) (.cap d q)) t false
        ∗ dutyTok ER (cell c (.snd d (par (t + 1)) q)) ((t + 1) / 2) false ∗ dutyTok ER (cell (tgt d c) (.rcv d (par t) q)) ((t + 1) / 2) false)
        ∗ cred (tallyAt (cell c (.cap d q)) (cIdx d q t) 1) ∗ cred (tallyAt (cell c (.rcv d (par t) q)) (mIdx d q (t + 1)) NC)) : sProp 𝕄)
        ⊢ bigSep (Finset.Ico 0 6) (hopRes c d q) from bigSep_mono fun t _ => hop_in c d q t)
    iexact H
  isplitl [T0]; · iexact T0
  isplitl [T1]; · iexact T1
  isplitl [C0]; · iexact C0
  isplitl [HA]; · iexact HA
  iexact HK

theorem carry_emp (c : Dev nD) (d : Bool) (q : Fin 2) (h : ¬ (d = true ∧ q = 0)) : (emp : sProp 𝕄) ⊢ carry c d q 0 := by
  unfold carry; rw [if_neg h]

/-- A device's credits. -/
def allCred (c : Dev nD) : sProp 𝕄 :=
  iprop(cred (tallyAt (cell c .bar) 1 2)
      ∗ (strCred c false 0 ∗ strCred c true 0 ∗ strCred c false 1 ∗ strCred c true 1)
      ∗ bigSep Finset.univ fun k : Fin 7 => cred (tallyAt (cell c (.arcv k)) (54 + k.val) NA))

/-- The four scratch buffers. -/
def bufs (c : Dev nD) : sProp 𝕄 := iprop(anyB c cc0_scratch0 ∗ anyB c cc0_scratch1 ∗ anyB c cc0_scratch6 ∗ anyB c cc0_scratch7)

theorem pre_in (c : Dev nD) : iprop(linear c ∗ allCred c ∗ bufs c) ⊢ (bodyPre c : sProp 𝕄) := by
  unfold linear allCred bufs
  rw [kd_sep, toks_split]
  unfold bodyPre barRes Starts Lent tailRes
  iintro ⟨⟨⟨PB, ⟨PR0, PL0, PR1, PL1⟩, PA⟩, ⟨TB0, TB1⟩, ⟨TR0, TL0, TR1, TL1⟩, TA⟩, ⟨CB, ⟨CR0, CL0, CR1, CL1⟩, CA⟩, B0, B1, B6, B7⟩
  ihave B0 := (show (anyB c cc0_scratch0 : sProp 𝕄) ⊢ iprop(∃ Y, ownsTc c (cmem false) fullShare Y) from whole_in c cc0_scratch0) $$ B0
  ihave B0 := (comm_split (F := F) c false) $$ B0
  icases B0 with ⟨⟨AR00, AR01⟩, LR⟩
  ihave B1 := (show (anyB c cc0_scratch1 : sProp 𝕄) ⊢ iprop(∃ Y, ownsTc c (cmem true) fullShare Y) from whole_in c cc0_scratch1) $$ B1
  ihave B1 := (comm_split (F := F) c true) $$ B1
  icases B1 with ⟨⟨AL00, AL01⟩, LL⟩
  ihave B7 := (whole_in c cc0_scratch7) $$ B7
  ihave B7 := (rows_split (F := F) c) $$ B7
  isplitl [PB CB TB0 TB1]
  · isplitl [PB]; · iexact PB
    isplitl [CB]; · iexact CB
    isplitl [TB0]; · iexact TB0
    iexact TB1
  isplitl [PR0 PL0 PR1 PL1 TR0 TL0 TR1 TL1 CR0 CL0 CR1 CL1 AR00 AR01 AL00 AL01 B7]
  · isplitl [PR0 TR0 CR0 AR00]
    · iapply (start_in c false 0)
      isplitl [PR0]; · iexact PR0
      isplitl [TR0]; · iexact TR0
      isplitl [CR0]; · iexact CR0
      isplitl [AR00]; · iexact AR00
      iapply (carry_emp (F := F) c false 0 (by decide)); iempintro
    isplitl [PL0 TL0 CL0 AL00 B7]
    · iapply (start_in c true 0)
      isplitl [PL0]; · iexact PL0
      isplitl [TL0]; · iexact TL0
      isplitl [CL0]; · iexact CL0
      isplitl [AL00]; · iexact AL00
      iexact B7
    isplitl [PR1 TR1 CR1 AR01]
    · iapply (start_in c false 1)
      isplitl [PR1]; · iexact PR1
      isplitl [TR1]; · iexact TR1
      isplitl [CR1]; · iexact CR1
      isplitl [AR01]; · iexact AR01
      iapply (carry_emp (F := F) c false 1 (by decide)); iempintro
    · iapply (start_in c true 1)
      isplitl [PL1]; · iexact PL1
      isplitl [TL1]; · iexact TL1
      isplitl [CL1]; · iexact CL1
      isplitl [AL01]; · iexact AL01
      iapply (carry_emp (F := F) c true 1 (by decide)); iempintro
  isplitl [LR LL]
  · isplitl [LR]; · iexact LR
    iexact LL
  isplitl [PA TA CA]
  · ihave H := (zip_sep (F := F) Finset.univ _ _) $$ [CA PA]
    · isplitl [CA]; · iexact CA
      iexact PA
    ihave H := (zip_sep (F := F) Finset.univ _ _) $$ [TA H]
    · isplitl [TA]; · iexact TA
      iexact H
    iexact H
  iapply (whole_in c cc0_scratch6); iexact B6

/-! ## Closing the cells -/

theorem close (K : Dev nD × Kd → ℕ) (c : Dev nD) :
    iprop(records v K ∗ bigSep Finset.univ fun κ : Kd => atPos ER (cell c κ) (rounds κ) ∅ 0)
      ⊢ |={Set.univ}=> (bigSep Finset.univ fun κ : Kd => semVal (cell c κ) 0 : sProp 𝕄) := by
  refine (with_persistent (R := records v K) (Ψ := fun κ : Kd => iprop(|={Set.univ}=> semVal (cell c κ) 0)) fun κ _ => ?_).trans (bigSep_fupd _ _)
  iintro ⟨#HR, Hat⟩
  iapply (Rounds.cell_close ER (rd v) (Set.mem_univ (K (c, κ))) (fun h => h) (R := rounds κ) (duties_after v c κ)) $$ [Hat]
  isplitr; · iapply (records_inv v K c κ); iexact HR
  iexact Hat

theorem str_end (c : Dev nD) (d : Bool) (q : Fin 2) :
    (posEnd c d q : sProp 𝕄) ⊢ strK (fun κ => atPos ER (cell c κ) (rounds κ) ∅ 0) d q := by
  unfold posEnd poss strK
  iintro ⟨⟨H1, H2, H3, H4⟩, H5⟩
  isplitl [H1 H2]
  · isplitl [H2]; · iexact H2
    iexact H1
  isplitl [H3 H4]
  · isplitl [H3]; · iexact H3
    iexact H4
  iexact H5

theorem end_out (c : Dev nD) :
    (bodyEnd c : sProp 𝕄) ⊢ iprop((bigSep Finset.univ fun κ : Kd => atPos ER (cell c κ) (rounds κ) ∅ 0) ∗ bufs c) := by
  rw [kd_sep]
  unfold bodyEnd tailDone bufs
  iintro ⟨PB, ⟨PR0, PL0, PR1, PL1⟩, ⟨B0, B1⟩, B6, B7, PA⟩
  isplitl [PB PR0 PL0 PR1 PL1 PA]
  · isplitl [PB]; · iexact PB
    isplitl [PR0 PL0 PR1 PL1]
    · isplitl [PR0]; · iapply (str_end c false 0); iexact PR0
      isplitl [PL0]; · iapply (str_end c true 0); iexact PL0
      isplitl [PR1]; · iapply (str_end c false 1); iexact PR1
      iapply (str_end c true 1); iexact PL1
    iexact PA
  isplitl [B0]; · iapply (whole_out c cc0_scratch0); iexact B0
  isplitl [B1]; · iapply (whole_out c cc0_scratch1); iexact B1
  isplitl [B6]; · iapply (whole_out c cc0_scratch6); iexact B6
  iapply (whole_out c cc0_scratch7); iexact B7

end Ghost

end Cert.KernelIdeal.Ring

end
-- ==== Proof.Launch.lean ====
/- The launch: what every device starts from, the body against its staging buffers, and the run of the whole
   mesh. -/
module

public import proofs.«01_k».proof.Proof.Start
public import Idealize.ShloMosaic.Lib.Pipeline.CollectiveSegs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-- The memory at the start. -/
def s₀ : MemSt nD τ sig (Elt F) := ⟨m, fun _ => 0, ρ⟩

/-- The factors' blocks as a device stages them. -/
def Xs (c : Dev nD) : S4096x512.Idx → Elt F .f32 := (win0_0.blk t0_0).view.read (Elt F) (m ((c : Thread nD τ).loc main_arg0))
@[inherit_doc Xs]
def Ws (c : Dev nD) : S512x2048.Idx → Elt F .f32 := (win0_1.blk t0_0).view.read (Elt F) (m ((c : Thread nD τ).loc main_arg1))

/-- The values of the run. -/
def runV : Vals F := vals (Xs m) (Ws m)

/-- What a device computes. -/
def outAt (c : Dev nD) : S512x2048.Idx → Elt F .f32 := result (Xs m) (Ws m) c

/-- What a device's body starts from besides its buffers. -/
def start (c : Dev nD) : sProp 𝕄 := iprop(∃ K, records (runV m) K ∗ linear c ∗ allCred c)

def Φ₀ (c : Dev nD) : sProp 𝕄 := iprop(start m c ∗ bufs c)

/-- After the body: the buffers, and every cell's counter at zero. -/
def Φ₁ (c : Dev nD) : sProp 𝕄 := iprop(bufs c ∗ bigSep Finset.univ fun κ : Kd => semVal (cell c κ) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => Xs m c
    | ⟨1, _⟩ => Ws m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [show t = t0_0 from fin_N0 t]; rfl
theorem fetch_1 (t : Fin cfg0.N) : (cfg0.win (1 : Fin 3)).fetch t = true := by rw [show t = t0_0 from fin_N0 t]; rfl

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_eq (c : Dev nD) (b : Ref sig .tc) (X : b.ty.Contents (Elt F)) :
    (ownsTc c (Memref.whole b) fullShare X : sProp 𝕄) = stg c b X := owns_whole_eq (c : Thread nD τ) b fullShare X

def stagePre (c : Dev nD) : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def stagePost (c : Dev nD) : sProp 𝕄 :=
  iprop(Φ₁ c ∗ (dats m ρ 0 c).owesAt 0 t0_0.succ ∗ stg c cc0_stg0_0 (Xs m c) ∗ stg c cc0_stg1_0 (Ws m c) ∗ stg c cc0_stg2_0 (outAt m c))

theorem wp_close {α : Type} (c : Dev nD) (p : Pg F α) (Q : α → sProp 𝕄) :
    (WP c p (fun x => iprop(|={Set.univ}=> Q x)) : sProp 𝕄) ⊢ WP c p Q := wp_fupd _ _ _ _ _

/-- The body against the staging buffers. -/
theorem wp_stage (c : Dev nD) :
    stagePre m ρ c ⊢ WP c (bodyP (Memref.whole cc0_stg0_0) (Memref.whole cc0_stg1_0) (Memref.whole cc0_stg2_0)) (fun _ => stagePost m ρ c) := by
  unfold stagePre Φ₀ start
  iintro ⟨⟨⟨%K, #HR, Hlin, Hcr⟩, Hbuf⟩, HO, ⟨%d0, %g0, %h0, H0⟩, ⟨%d1, %g1, %h1, H1⟩, ⟨%d2, %g2, %h2, H2⟩⟩
  have e0 : g0 = Xs m c := by rw [h0]; unfold Dat.before; rw [if_pos (fetch_0 t0_0)]; rfl
  have e1 : g1 = Ws m c := by rw [h1]; unfold Dat.before; rw [if_pos (fetch_1 t0_0)]; rfl
  subst e0 e1
  unfold Dat.owesAt Pipeline.owesWithin
  icases HO with ⟨%Wt, %hW, HO⟩
  rw [show (dats m ρ 0 c).owed t0_0.castSucc = O₀ c from rfl]
  iapply (wp_close c (bodyP (Memref.whole cc0_stg0_0) (Memref.whole cc0_stg1_0) (Memref.whole cc0_stg2_0)) (fun _ => stagePost m ρ c))
  iapply (wp_body (Xs m) (Ws m) K c (Memref.whole cc0_stg0_0) (Memref.whole cc0_stg1_0) (Memref.whole cc0_stg2_0) g2
    (fun _ => iprop(|={Set.univ}=> stagePost m ρ c))) $$ [Hlin Hcr Hbuf HO H0 H1 H2]
  · isplitr; · iexact HR
    isplitl [Hlin Hcr Hbuf]
    · iapply (pre_in (F := F) c)
      isplitl [Hlin]; · iexact Hlin
      isplitl [Hcr]; · iexact Hcr
      iexact Hbuf
    isplitl [HO]
    · unfold Owes; iexists Wt; iexact HO
    isplitl [H0]
    · iapply (Entails.of_eq (stg_eq c cc0_stg0_0 (Xs m c)).symm); iexists _
      isplitr; · (ipureintro; rfl)
      iexact H0
    isplitl [H1]
    · iapply (Entails.of_eq (stg_eq c cc0_stg1_0 (Ws m c)).symm); iexists _
      isplitr; · (ipureintro; rfl)
      iexact H1
    iapply (Entails.of_eq (stg_eq c cc0_stg2_0 g2).symm); iexists _
    isplitr; · (ipureintro; rfl)
    iexact H2
  iintro ⟨Hend, HO, H0, H1, H2⟩
  ihave Hend := (end_out (F := F) c) $$ Hend
  icases Hend with ⟨Hat, Hbuf⟩
  imod (close (runV m) K c) $$ [Hat] with Hz
  · isplitr; · iexact HR
    iexact Hat
  imodintro
  unfold stagePost Φ₁ Dat.owesAt Pipeline.owesWithin
  rw [show (dats m ρ 0 c).owed t0_0.succ = 0 from rfl]
  isplitl [Hbuf Hz]
  · isplitl [Hbuf]; · iexact Hbuf
    iexact Hz
  isplitl [HO]
  · unfold Owes
    icases HO with ⟨%Wu, HO⟩
    iexists Wu
    isplitr; · ipureintro; exact fun _ _ => Or.inl trivial
    iexact HO
  isplitl [H0]; · iapply (Entails.of_eq (stg_eq c cc0_stg0_0 (Xs m c))); iexact H0
  isplitl [H1]; · iapply (Entails.of_eq (stg_eq c cc0_stg1_0 (Ws m c))); iexact H1
  iapply (Entails.of_eq (stg_eq c cc0_stg2_0 (outAt m c))); iexact H2

set_option maxRecDepth 16000 in
/-- The library's obligation for the body. -/
theorem body_obligation (c : Dev nD) : BodyObligation (dats (F := F) m ρ 0 c) (defs₀ (F := F)) 𝒱₀ 0 Set.univ := fun t => by
  rw [show t = t0_0 from fin_N0 t]
  rw [bigSep_W, bigSep_W]
  simp only [owns_whole_eq]
  show stagePre m ρ c ⊢ WP c (cc0_body (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) (Memref.whole cc0_scratch1) (Memref.isWhole_whole _)
      cc0_scratch2 cc0_scratch3 cc0_scratch4 cc0_scratch5 (Memref.whole cc0_scratch6) (Memref.isWhole_whole _) (Memref.whole cc0_scratch7) (Memref.isWhole_whole _)
      cc0_scratch8 cc0_scratch9 cc0_scratch10 cc0_scratch11) (fun _ => stagePost m ρ c)
  rw [body_eq]
  exact wp_stage m ρ c

/-! ## The theorem's side conditions -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (runV m) c)
      ⊢ |={Set.univ}=> iprop(start m c ∗ emp) := by
  iintro ⟨-, #Hlev, Hcr, -, HG⟩
  ihave Hc := (creds (F := F) c) $$ Hcr
  imodintro
  unfold start G' marks
  icases HG with ⟨%K, ⟨#HI, #HR⟩, Hlin⟩
  isplitl
  · iexists K
    isplitr
    · unfold records
      isplitr; · iexact HI
      isplitr; · iexact HR
      iexact Hlev
    isplitl [Hlin]; · iexact Hlin
    unfold allCred; iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs anyB
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [← sems0_eq]
  unfold bufs anyB
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) 0 0 c :=
  Pipeline.cellsWaits_intro cfgs (dats m ρ) 0 0 c fun w s t =>
    mayWait c _ 0 (by decide) (by
      rcases t with ⟨_ | _, ht⟩
      · show Above 1 (O₀ c)
        unfold O₀
        exact ((Above.mono (above_O c) (by omega)).add (above_tally _ _ _ _ (by omega) (by omega))).add (above_tally _ _ _ _ (by omega) (by omega))
      · exact above_zero _)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16000 in
/-- From any memory with counters at zero every fair run of the mesh ends, with every window's array as computed and
    every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (runV m)) (G' := G' (runV m)) (u₀ := u₀)
    (hu₀ := by
      unfold u₀
      iintro Hu
      ihave H := (ownU_pair _ _) $$ Hu
      icases H with ⟨HP, HX⟩
      imod (fund_ring (runV m)) $$ HX with HG
      imodintro
      isplitl [HP] <;> iassumption)
    (hglob := glob (runV m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_0 (c : Dev nD) : finalA m ρ c (0 : Fin 3) = m ((c : Thread nD τ).loc main_arg0) :=
  (dats (F := F) m ρ 0 c).arrAt_in (0 : Fin 3) rfl _

theorem finalA_1 (c : Dev nD) : finalA m ρ c (1 : Fin 3) = m ((c : Thread nD τ).loc main_arg1) :=
  (dats (F := F) m ρ 0 c).arrAt_in (1 : Fin 3) rfl _

end Cert.KernelIdeal.Ring

end
-- ==== Proof.Frames.lean ====
/- The frames: every program runs, keeps its arguments and ends with every counter at zero. -/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Proof

open Idealize.ShloMosaic Idealize.ShloMosaic.TcCoe Idealize.SL.Sem
open Cert.KernelIdeal.Ring

attribute [local instance] Cert.Kernel.Gen.facts Cert.KernelIdeal.Gen.facts Cert.ReferenceIdeal.Gen.facts

/-- What a run leaves in the argument arrays, and every counter at zero. -/
theorem kept {F : FTy → Type} [FloatOps F] (m : (ℓ : Loc Cert.KernelIdeal.nD Cert.KernelIdeal.τ Cert.KernelIdeal.sig) → Buf (Elt F) ℓ)
    (ρ : Dev Cert.KernelIdeal.nD → PrngReg) (r : PUnit × MemSt Cert.KernelIdeal.nD Cert.KernelIdeal.τ Cert.KernelIdeal.sig (Elt F))
    (h : QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) :=
  ⟨(h c (0 : Fin 3)).trans (finalA_0 m ρ c), (h c (1 : Fin 3)).trans (finalA_1 m ρ c)⟩

theorem frame_kernelIdeal : Cert.quiescent_KernelIdeal := fun m ρ _ =>
  (θ_run Cert.KernelIdeal.defs _ _).mono (fun r h => ⟨fun c => kept m ρ r h.1 c, h.2⟩) (run_main (F := Ideal) m ρ)

/-! The two printings of the kernel are one program. -/

set_option maxRecDepth 100000 in
theorem body_eq {F : FTy → Type} [FloatOps F] : Cert.KernelIdeal.cc0_body (F := F) = Cert.Kernel.cc0_body := rfl

theorem defs₀_eq {F : FTy → Type} [FloatOps F] : Cert.KernelIdeal.defs₀ (F := F) = Cert.Kernel.defs₀ := by
  unfold Cert.KernelIdeal.defs₀ Cert.Kernel.defs₀
  apply congrArg
  funext l a
  match l, a with
  | 0, (t, s) => exact (by rw [← body_eq])

theorem defs_eq {F : FTy → Type} [FloatOps F] : Cert.KernelIdeal.defs (F := F) = Cert.Kernel.defs :=
  congrArg (Pipeline.defs (Cert.KernelIdeal.pcfgs (F := F))) defs₀_eq

theorem main_eq {F : FTy → Type} [FloatOps F] : Cert.KernelIdeal.main (F := F) = Cert.Kernel.main := rfl

theorem frame_kernel : Cert.quiescent_Kernel := fun m ρ _ => by
  rw [← defs_eq]
  exact (θ_run Cert.KernelIdeal.defs _ _).mono (fun r h => ⟨fun c => kept m ρ r h.1 c, h.2⟩) (run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Final.lean ====
/- The arrays' blocks as a device stages them, and what the run leaves in the result array. -/
module

public import proofs.«01_k».proof.Proof.Launch
public import Idealize.ShloMosaic.Lib.Pipeline.Value

@[expose] public section

noncomputable section

namespace Cert.KernelIdeal.Ring

open Idealize.ShloMosaic Idealize.ShloMosaic.TcCoe
open Cert.KernelIdeal Cert.KernelIdeal.Gen
open Idealize.ShloMosaic.Pipeline (Dat Cfg Window)

variable {F : FTy → Type} [FloatOps F]
variable (m : (ℓ : Loc nD τ sig) → Buf (Elt F) ℓ) (ρ : Dev nD → PrngReg)

theorem emb_0 (y : S4096x512.Idx) : (win0_0.rect t0_0).emb y = y :=
  funext fun a => Fin.ext (Window.rect_emb_val_of_index_zero win0_0 t0_0 a (by revert a; decide +kernel) y)

theorem emb_1 (y : S512x2048.Idx) : (win0_1.rect t0_0).emb y = y :=
  funext fun a => Fin.ext (Window.rect_emb_val_of_index_zero win0_1 t0_0 a (by revert a; decide +kernel) y)

theorem emb_2 (y : S512x2048.Idx) : (win0_2.rect t0_0).emb y = y :=
  funext fun a => Fin.ext (Window.rect_emb_val_of_index_zero win0_2 t0_0 a (by revert a; decide +kernel) y)

theorem Xs_eq (c : Dev nD) : Xs m c = m ((c : Thread nD τ).loc main_arg0) :=
  funext fun y => congrArg (m ((c : Thread nD τ).loc main_arg0)) (emb_0 y)

theorem Ws_eq (c : Dev nD) : Ws m c = m ((c : Thread nD τ).loc main_arg1) :=
  funext fun y => congrArg (m ((c : Thread nD τ).loc main_arg1)) (emb_1 y)

theorem finalA_2 (c : Dev nD) : finalA m ρ c (2 : Fin 3) = outAt m c :=
  (dats (F := F) m ρ 0 c).arrAt_eq_of_cover (2 : Fin 3) (outAt m c)
    (fun t _ => by
      obtain rfl := fin_N0 t
      exact funext fun y => (congrArg (outAt m c) (emb_2 y)).symm)
    fun i => ⟨t0_0, flush0_2 _, (congrArg (· ∈ (win0_2.blk t0_0).view.set) (emb_2 i)).mp ((win0_2.blk t0_0).view.emb_mem_set i)⟩

end Cert.KernelIdeal.Ring

end
-- ==== Proof.Product.lean ====
/- Over the extended reals: one device's products, and the sum a message has gathered. -/
module

public import proofs.«01_k».proof.Proof.Body
public import Idealize.ShloMosaic.Lib.Pointwise

@[expose] public section

noncomputable section

namespace Cert.KernelIdeal.Ring

open Idealize.ShloMosaic
open Cert.KernelIdeal Cert.KernelIdeal.Gen

set_option maxRecDepth 16384

/-! ## Where the blocks lie -/

/-- Row `r` of block `b`. -/
def rowOf (b : Dev nD) (r : Fin 512) : Fin 4096 := ⟨512 * b.val + r.val, by have := b.isLt; simp only [nD] at this; omega⟩

/-- Column `l` of a direction's half. -/
def colOf (d : Bool) (l : Fin 1024) : Fin 2048 := ⟨(if d then 0 else 1024) + l.val, by cases d <;> simp <;> omega⟩

/-- Column `l` of chunk `q` of a half. -/
def chOf (q : Fin 2) (l : Fin 512) : Fin 1024 := ⟨512 * q.val + l.val, by omega⟩

/-- The row block a device multiplies at a step. -/
def blk (d : Bool) (c : Dev nD) (s : ℕ) : Dev nD := shift c (if d then 1 + s else 15 - s)

theorem off1_eq : ∀ (c : Dev nD) (s : Fin 8), k0_off1 c (BitVec.ofNat 32 s.val) = ![512 * (blk false c s.val).val, 0] := by decide
theorem off2_eq : ∀ (c : Dev nD) (s : Fin 8), k0_off2 c (BitVec.ofNat 32 s.val) = ![512 * (blk true c s.val).val, 0] := by decide

variable {F : FTy → Type} [FloatOps F]

theorem xrows_at (Y : S4096x512.Idx → Elt F .f32) (d : Bool) (c : Dev nD) (s : Fin 8) (r k : Fin 512) :
    xrows Y d c s (ix2 r k) = Y (ix2 (rowOf (blk d c s.val) r) k) := by
  cases d
  · show Y _ = Y _
    congr 1
    funext a
    refine Fin.ext ?_
    show k0_off1 c (BitVec.ofNat 32 s.val) a + 1 * ((ix2 r k : S512x512.Idx) a).val = _
    rw [off1_eq]
    match a with
    | 0 => simp [rowOf, ix2]
    | 1 => simp [rowOf, ix2]
  · show Y _ = Y _
    congr 1
    funext a
    refine Fin.ext ?_
    show k0_off2 c (BitVec.ofNat 32 s.val) a + 1 * ((ix2 r k : S512x512.Idx) a).val = _
    rw [off2_eq]
    match a with
    | 0 => simp [rowOf, ix2]
    | 1 => simp [rowOf, ix2]

theorem wread_at (Y : S512x2048.Idx → Elt F .f32) : wread Y = Y := by
  funext j
  show Y _ = Y _
  congr 1
  funext a
  refine Fin.ext ?_
  show (![0, 0] : Fin 2 → ℕ) a + 1 * (j a).val = _
  match a with
  | 0 => simp
  | 1 => simp

/-! ## The payloads at an index -/

theorem pay14_at (hi lo : FVec Ideal S512x2048 .bf16) (x : Vec Ideal S512x512 .f32) (r : Fin 512) (l : Fin 1024) :
    k0_pay14 hi lo x (ix2 r l) = (∑ k, x (ix2 r k) * hi (ix2 k (colOf false l)) + ∑ k, x (ix2 r k) * lo (ix2 k (colOf false l))
      + ∑ k, (x (ix2 r k) - x (ix2 r k)) * hi (ix2 k (colOf false l)) : EReal) := by
  pointwise [k0_pay14]
  rfl

theorem pay78_at (hi lo : FVec Ideal S512x2048 .bf16) (x : Vec Ideal S512x512 .f32) (r : Fin 512) (l : Fin 1024) :
    k0_pay78 hi lo x (ix2 r l) = (∑ k, x (ix2 r k) * hi (ix2 k (colOf true l)) + ∑ k, x (ix2 r k) * lo (ix2 k (colOf true l))
      + ∑ k, (x (ix2 r k) - x (ix2 r k)) * hi (ix2 k (colOf true l)) : EReal) := by
  have h : ∀ l : Fin 1024, colOf true l = ⟨l.val, by omega⟩ := fun l => Fin.ext (by simp [colOf])
  rw [h]
  pointwise [k0_pay78]

theorem part_at (d : Bool) (hi lo : FVec Ideal S512x2048 .bf16) (x : Vec Ideal S512x512 .f32) (r : Fin 512) (l : Fin 1024) :
    partV d hi lo x (ix2 r l) = (∑ k, x (ix2 r k) * hi (ix2 k (colOf d l)) + ∑ k, x (ix2 r k) * lo (ix2 k (colOf d l))
      + ∑ k, (x (ix2 r k) - x (ix2 r k)) * hi (ix2 k (colOf d l)) : EReal) := by
  cases d
  · exact pay14_at hi lo x r l
  · exact pay78_at hi lo x r l

theorem first_at (d : Bool) (q : Fin 2) (hi lo : FVec Ideal S512x2048 .bf16) (x : Vec Ideal S512x512 .f32) (r l : Fin 512) :
    firstV d q hi lo x (ix3 0 r l) = (∑ k, x (ix2 r k) * hi (ix2 k (colOf d (chOf q l))) + ∑ k, x (ix2 r k) * lo (ix2 k (colOf d (chOf q l)))
      + ∑ k, (x (ix2 r k) - x (ix2 r k)) * hi (ix2 k (colOf d (chOf q l))) : EReal) := by
  match d, q with
  | false, 0 =>
    have h : colOf false (chOf 0 l) = ⟨1024 + l.val, by omega⟩ := Fin.ext (by simp [colOf, chOf])
    rw [h]
    pointwise [firstV, k0_pay5, k0_pay3]
  | false, 1 =>
    have h : colOf false (chOf 1 l) = ⟨1536 + l.val, by omega⟩ := Fin.ext (by simp [colOf, chOf]; omega)
    rw [h]
    pointwise [firstV, k0_pay12, k0_pay11, k0_pay3]
  | true, 0 =>
    have h : colOf true (chOf 0 l) = ⟨l.val, by omega⟩ := Fin.ext (by simp [colOf, chOf])
    rw [h]
    pointwise [firstV, k0_pay10, k0_pay6, k0_pay7, k0_pay8, k0_pay9, k0_pay4]
  | true, 1 =>
    have h : colOf true (chOf 1 l) = ⟨512 + l.val, by omega⟩ := Fin.ext (by simp [colOf, chOf])
    rw [h]
    pointwise [firstV, k0_pay13, k0_pay4]

theorem add_at (q : Fin 2) (y : FVec Ideal S512x1024 .f32) (v : Vec Ideal S1x512x512 .bf16) (r l : Fin 512) :
    addV q y v (ix3 0 r l) = (v (ix3 0 r l) + y (ix2 r (chOf q l)) : EReal) := by
  match q with
  | 0 =>
    have h : chOf 0 l = ⟨l.val, by omega⟩ := Fin.ext (by simp [chOf])
    rw [h]
    pointwise [addV, k0_pay24]
  | 1 =>
    have h : chOf 1 l = ⟨512 + l.val, by omega⟩ := Fin.ext (by simp [chOf])
    rw [h]
    pointwise [addV, k0_pay25]

/-! ## Contributions -/

variable (X : Dev nD → S4096x512.Idx → Elt Ideal .f32) (W : Dev nD → S512x2048.Idx → Elt Ideal .f32)

/-- A device's contribution to an element of the whole product, as the kernel adds it up from the split factors. -/
def contrib (c : Dev nD) (i : Fin 4096) (n : Fin 2048) : EReal :=
  (∑ k : Fin 512, X c (ix2 i k) * W c (ix2 k n) + ∑ k : Fin 512, X c (ix2 i k) * (W c (ix2 k n) - W c (ix2 k n))
    + ∑ k : Fin 512, (X c (ix2 i k) - X c (ix2 i k)) * W c (ix2 k n) : EReal)

theorem whi_at (c : Dev nD) (k : Fin 512) (n : Fin 2048) : whi W c (ix2 k n) = W c (ix2 k n) := by
  unfold whi
  rw [wread_at]
  pointwise [k0_pay1]

theorem wlo_at (c : Dev nD) (k : Fin 512) (n : Fin 2048) : wlo W c (ix2 k n) = (W c (ix2 k n) - W c (ix2 k n) : EReal) := by
  unfold wlo
  rw [wread_at]
  pointwise [k0_pay2, k0_pay1]

theorem part_eq (d : Bool) (c : Dev nD) (s : Fin 8) (r : Fin 512) (l : Fin 1024) :
    part X W d c s (ix2 r l) = contrib X W c (rowOf (blk d c s.val) r) (colOf d l) := by
  unfold part
  rw [part_at]
  simp only [xrows_at, whi_at, wlo_at]
  rfl

theorem blk_src (d : Bool) (c : Dev nD) (s : ℕ) (hs : s < 7) : blk d (src d c) s = blk d c (s + 1) := by
  unfold blk src
  rw [tgt_val, shift_shift]
  cases d
  · simp only [Bool.not_false, if_true, Bool.false_eq_true, if_false]
    rw [show 7 + (15 - s) = (15 - (s + 1)) + 8 by omega, ← shift_shift, shift_eight]
  · simp only [Bool.not_true, if_true, Bool.false_eq_true, if_false]
    congr 1; omega

theorem msg_eq (d : Bool) (q : Fin 2) (r l : Fin 512) (s : ℕ) (hs : s < 8) (c : Dev nD) :
    msg X W d q s c (ix3 0 r l)
      = ∑ t ∈ Finset.range (s + 1), contrib X W ((src d)^[t] c) (rowOf (blk d c s) r) (colOf d (chOf q l)) := by
  induction s generalizing c with
  | zero =>
    rw [Finset.sum_range_one]
    unfold msg
    rw [first_at]
    simp only [xrows_at, whi_at, wlo_at]
    rfl
  | succ s ih =>
    unfold msg
    rw [add_at, ih (by omega), part_eq X W, blk_src d c s (by omega), Finset.sum_range_succ' _ (s + 1)]
    have hv : (Fin.ofNat 8 (s + 1)).val = s + 1 := Nat.mod_eq_of_lt hs
    rw [hv]
    rfl

end Cert.KernelIdeal.Ring

end
-- ==== Proof.Total.lean ====
/- Over the extended reals: a device's block of the product, summed over the ring, and its largest element. -/
module

public import proofs.«01_k».proof.Proof.Product

@[expose] public section

noncomputable section

namespace Cert.KernelIdeal.Ring

open Idealize.ShloMosaic
open Cert.KernelIdeal Cert.KernelIdeal.Gen

set_option maxRecDepth 16384

variable (X : Dev nD → S4096x512.Idx → Elt Ideal .f32) (W : Dev nD → S512x2048.Idx → Elt Ideal .f32)

/-- An element of the whole product, as the devices add it up. -/
def total (i : Fin 4096) (n : Fin 2048) : EReal := ∑ e : Dev nD, contrib X W e i n

theorem src_iter (d : Bool) (c : Dev nD) (t : ℕ) : (src d)^[t] c = shift c (t * (if d then 1 else 7)) := by
  induction t with
  | zero => rw [Nat.zero_mul, shift_zero]; rfl
  | succ t ih =>
    rw [Function.iterate_succ_apply', ih]
    unfold src
    rw [tgt_val, shift_shift]
    congr 1
    cases d <;> simp only [Bool.not_false, Bool.not_true, if_true, Bool.false_eq_true, if_false] <;> omega

theorem around_inj (d : Bool) : ∀ c : Dev nD, Function.Injective fun t : Fin 8 => shift c (t.val * (if d then 1 else 7)) := by
  cases d <;> decide

theorem sum_around (d : Bool) (c : Dev nD) (f : Dev nD → EReal) : ∑ t ∈ Finset.range 8, f ((src d)^[t] c) = ∑ e, f e := by
  rw [Finset.sum_range fun t => f ((src d)^[t] c)]
  simp only [src_iter]
  exact Fintype.sum_bijective _ ((Fintype.bijective_iff_injective_and_card _).2 ⟨around_inj d c, rfl⟩) _ _ fun _ => rfl

theorem last_at (d : Bool) (c : Dev nD) (q : Fin 2) (r l : Fin 512) :
    lastV X W d c (ix3 0 r (chOf q l)) = msg X W d q 6 (src d c) (ix3 0 r l) := by
  unfold lastV vS endV
  have he : srect.emb (ix3 0 r (chOf q l)) = (crect 1 q).emb (ix3 0 r l) := by
    funext a
    refine Fin.ext ?_
    show (![1, 0, 0] : Fin 3 → ℕ) a + 1 * ((ix3 0 r (chOf q l) : S1x512x1024.Idx) a).val
      = (![1, 0, 512 * q.val] : Fin 3 → ℕ) a + 1 * ((ix3 0 r l : S1x512x512.Idx) a).val
    match a with
    | 0 => simp [ix3]
    | 1 => simp [ix3]
    | 2 => simp [ix3, chOf]
  rw [he]
  haveI : Nonempty (Elt Ideal .bf16) := Elt.nonempty Ideal _
  refine (glue_emb (fun t : Fin 2 × Fin 2 => crect t.1 t.2) crect_disjoint _ ((1 : Fin 2), q) (ix3 0 r l)).trans ?_
  rfl

theorem ch_split (l : Fin 1024) : ∃ q l', l = chOf q l' :=
  ⟨⟨l.val / 512, by omega⟩, ⟨l.val % 512, by omega⟩, Fin.ext (by simp [chOf]; omega)⟩

theorem blk_last (d : Bool) (c : Dev nD) : blk d c 7 = c := by
  unfold blk
  cases d <;> simp only [if_true, Bool.false_eq_true, if_false] <;> exact shift_eight c

/-- The last message with the device's own product is the whole sum. -/
theorem half_eq (d : Bool) (c : Dev nD) (r : Fin 512) (l : Fin 1024) :
    (lastV X W d c (ix3 0 r l) + part X W d c 7 (ix2 r l) : EReal) = total X W (rowOf c r) (colOf d l) := by
  obtain ⟨q, l', rfl⟩ := ch_split l
  rw [last_at, msg_eq X W d q r l' 6 (by omega), part_eq X W, blk_src d c 6 (by omega)]
  show _ + contrib X W c (rowOf (blk d c 7) r) _ = _
  rw [blk_last]
  refine Eq.trans ?_ (sum_around d c fun e => contrib X W e (rowOf c r) (colOf d (chOf q l')))
  rw [Finset.sum_range_succ' _ 7]
  rfl

theorem right_at (c : Dev nD) (r : Fin 512) (l : Fin 1024) :
    sumR X W c (ix2 r l) = total X W (rowOf c r) (colOf false l) := by
  refine Eq.trans ?_ (half_eq X W false c r l)
  unfold sumR
  generalize part X W false c 7 = y
  generalize lastV X W false c = v
  pointwise [k0_pay79]

theorem left_at (c : Dev nD) (r : Fin 512) (l : Fin 1024) :
    k0_pay80 (part X W true c 7) (lastV X W true c) (ix2 r l) = total X W (rowOf c r) (colOf true l) := by
  refine Eq.trans ?_ (half_eq X W true c r l)
  generalize part X W true c 7 = y
  generalize lastV X W true c = v
  pointwise [k0_pay80]

/-! ## The largest element -/

/-- What a maximum starts from. -/
abbrev low : EReal := Ideal.ofBits .f32 0xFF800000#32

/-- The size of an element. -/
abbrev size (a : EReal) : EReal := FloatOps.absf (F := Ideal) (φ := .f32) a

theorem le_fold {α : Type} [Fintype α] (b : EReal) (f : α → EReal) (x : α) : f x ≤ Finset.fold max b f Finset.univ :=
  (Finset.le_fold_max _).2 (.inr ⟨x, Finset.mem_univ _, le_refl _⟩)

theorem start_le {α : Type} [Fintype α] (b : EReal) (f : α → EReal) : b ≤ Finset.fold max b f Finset.univ :=
  (Finset.le_fold_max _).2 (.inl (le_refl _))

theorem fold_le {α : Type} [Fintype α] (b t : EReal) (f : α → EReal) (hb : b ≤ t) (hf : ∀ x, f x ≤ t) : Finset.fold max b f Finset.univ ≤ t :=
  (Finset.fold_max_le _).2 ⟨hb, fun x _ => hf x⟩

/-- The largest size in one half of a device's block. -/
def halfMax (d : Bool) (c : Dev nD) : EReal :=
  Finset.fold max low (fun x : Fin 512 × Fin 1024 => size (total X W (rowOf c x.1) (colOf d x.2))) Finset.univ

/-- The largest size of all. -/
def allMax : EReal := Finset.fold max low (fun x : Fin 4096 × Fin 2048 => size (total X W x.1 x.2)) Finset.univ

theorem max_at (yl sr : FVec Ideal S512x1024 .f32) (vl : Vec Ideal S1x512x1024 .bf16) :
    k0_pay81 yl sr vl = max (Finset.fold max low (fun x : Fin 512 × Fin 1024 => size (k0_pay80 yl vl (ix2 x.1 x.2))) Finset.univ)
      (Finset.fold max low (fun x : Fin 512 × Fin 1024 => size (sr (ix2 x.1 x.2))) Finset.univ) := by
  unfold k0_pay81
  generalize k0_pay80 yl vl = yy
  pointwise []

theorem own_max (c : Dev nD) :
    k0_pay81 (part X W true c 7) (sumR X W c) (lastV X W true c) = max (halfMax X W true c) (halfMax X W false c) := by
  rw [max_at]
  simp only [right_at X W, left_at X W]
  rfl

theorem cast_const (a : Ideal .f32) (j : S8x128.Idx) : (shapeCast S8x128 (broadcast S8x128 a : FVec Ideal S8x128 .f32) shapeCasts_S8x128_S8x128) j = a := rfl

theorem pay82_at (yl sr : FVec Ideal S512x1024 .f32) (vl : Vec Ideal S1x512x1024 .bf16) (p : Fin 8) (u : Fin 128) :
    k0_pay82 yl sr vl (ix2 p u) = k0_pay81 yl sr vl := by
  unfold k0_pay82
  exact cast_const (k0_pay81 yl sr vl) (ix2 p u)

theorem copy_at (c : Dev nD) (p : Fin 8) (u : Fin 128) :
    (vals X W).A c (ix2 p u) = max (halfMax X W true c) (halfMax X W false c) :=
  (pay82_at (part X W true c 7) (sumR X W c) (lastV X W true c) p u).trans (own_max X W c)

theorem got_at (c : Dev nD) (k : Fin 7) (p : Fin 8) (u : Fin 128) :
    zV (vals X W) c (ix2 ⟨8 * k.val + p.val, by omega⟩ u)
      = max (halfMax X W true (shift c (7 - k.val))) (halfMax X W false (shift c (7 - k.val))) := by
  rw [← copy_at X W _ p u]
  unfold zV zG
  have he : (Rect.unit (s := S56x128) ![0, 0] S56x128.size inb_S56x128_S56x128_0_0).emb (ix2 ⟨8 * k.val + p.val, by omega⟩ u)
      = (arect k).emb (ix2 p u) := by
    funext a
    refine Fin.ext ?_
    show (![0, 0] : Fin 2 → ℕ) a + 1 * ((ix2 (⟨8 * k.val + p.val, by omega⟩ : Fin 56) u : S56x128.Idx) a).val
      = (![8 * k.val, 0] : Fin 2 → ℕ) a + 1 * ((ix2 p u : S8x128.Idx) a).val
    match a with
    | 0 => simp [ix2]
    | 1 => simp [ix2]
  rw [he]
  haveI : Nonempty (Elt Ideal .f32) := Elt.nonempty Ideal _
  exact glue_emb arect arect_disjoint _ k (ix2 p u)

theorem row_split (i : Fin 4096) : ∃ c r, i = rowOf c r :=
  ⟨⟨i.val / 512, by show _ < 8; omega⟩, ⟨i.val % 512, by omega⟩, Fin.ext (by simp [rowOf]; omega)⟩

theorem col_split (n : Fin 2048) : ∃ d l, n = colOf d l := by
  by_cases h : n.val < 1024
  · exact ⟨true, ⟨n.val, h⟩, Fin.ext (by simp [colOf])⟩
  · exact ⟨false, ⟨n.val - 1024, by omega⟩, Fin.ext (by simp [colOf]; omega)⟩

theorem low_le : low ≤ allMax X W := start_le low fun x : Fin 4096 × Fin 2048 => size (total X W x.1 x.2)

theorem size_le (i : Fin 4096) (n : Fin 2048) : size (total X W i n) ≤ allMax X W :=
  le_fold low (fun x : Fin 4096 × Fin 2048 => size (total X W x.1 x.2)) (i, n)

theorem half_le (d : Bool) (c : Dev nD) : halfMax X W d c ≤ allMax X W := by
  unfold halfMax
  exact fold_le low _ _ (low_le X W) fun x => size_le X W _ _

theorem le_half (d : Bool) (c : Dev nD) (r : Fin 512) (l : Fin 1024) : size (total X W (rowOf c r) (colOf d l)) ≤ halfMax X W d c :=
  le_fold low (fun x : Fin 512 × Fin 1024 => size (total X W (rowOf c x.1) (colOf d x.2))) (r, l)

theorem all_le (t : EReal) (hb : low ≤ t) (h : ∀ c r d l, size (total X W (rowOf c r) (colOf d l)) ≤ t) : allMax X W ≤ t := by
  unfold allMax
  refine fold_le low t _ hb fun x => ?_
  obtain ⟨e, r, hr⟩ := row_split x.1
  obtain ⟨d, l, hl⟩ := col_split x.2
  rw [hr, hl]
  exact h e r d l

theorem shift_reach : ∀ c e : Dev nD, e = c ∨ ∃ k : Fin 7, e = shift c (7 - k.val) := by decide

/-- The device's own maximum with the ones received is the largest of all. -/
theorem all_max (c : Dev nD) :
    max (k0_pay81 (part X W true c 7) (sumR X W c) (lastV X W true c))
      (Finset.fold max low (fun x : Fin 56 × Fin 128 => zV (vals X W) c (ix2 x.1 x.2)) Finset.univ) = allMax X W := by
  rw [own_max X W]
  have hz : ∀ x : Fin 56 × Fin 128, zV (vals X W) c (ix2 x.1 x.2)
      = max (halfMax X W true (shift c (7 - x.1.val / 8))) (halfMax X W false (shift c (7 - x.1.val / 8))) := fun x => by
    refine Eq.trans ?_ (got_at X W c ⟨x.1.val / 8, by omega⟩ ⟨x.1.val % 8, by omega⟩ x.2)
    congr 2
    exact Fin.ext (by simp; omega)
  simp only [hz]
  refine le_antisymm (max_le (max_le (half_le X W _ _) (half_le X W _ _)) (fold_le low _ _ (low_le X W) fun x =>
    max_le (half_le X W _ _) (half_le X W _ _))) (all_le X W _ ?_ fun e r d l => ?_)
  · exact le_max_of_le_right (start_le low _)
  · have hm : halfMax X W d e ≤ max (halfMax X W true e) (halfMax X W false e) := by
      cases d
      · exact le_max_right _ _
      · exact le_max_left _ _
    have hd := (le_half X W d e r l).trans hm
    rcases shift_reach c e with he | ⟨k, he⟩
    · rw [he] at hd ⊢
      exact le_max_of_le_left hd
    · refine le_max_of_le_right (hd.trans (le_of_eq_of_le ?_ (le_fold low _ ((⟨8 * k.val, by omega⟩ : Fin 56), (0 : Fin 128)))))
      have hk : 8 * k.val / 8 = k.val := by omega
      show _ = max (halfMax X W true (shift c (7 - 8 * k.val / 8))) (halfMax X W false (shift c (7 - 8 * k.val / 8)))
      rw [hk, he]

/-! ## The output -/

/-- An element rounded to a multiple of the scale. -/
def quant (s y : EReal) : EReal :=
  min (Ideal.ofBits .f32 0x42FE0000#32) (max (Ideal.ofBits .f32 0xC2FE0000#32) (Ideal.liftRound Ideal.roundHalfEven (Ideal.div y s))) * s

/-- The scale. -/
def scale : EReal := Ideal.div (allMax X W) (Ideal.ofBits .f32 0x42FE0000#32)

theorem scale_at (a : EReal) (z : Vec Ideal S56x128 .f32) :
    k0_pay83 (F := Ideal) a z
      = Ideal.div (max a (Finset.fold max low (fun x : Fin 56 × Fin 128 => z (ix2 x.1 x.2)) Finset.univ)) (Ideal.ofBits .f32 0x42FE0000#32) := by
  pointwise [k0_pay83]

theorem scale_eq (c : Dev nD) :
    k0_pay83 (F := Ideal) (k0_pay81 (part X W true c 7) (sumR X W c) (lastV X W true c)) (zV (vals X W) c) = scale X W := by
  rw [scale_at, all_max X W]
  rfl

theorem out_l (y : FVec Ideal S512x1024 .f32) (a : EReal) (z : Vec Ideal S56x128 .f32) (r : Fin 512) (l : Fin 1024) :
    k0_pay85 y a z (ix2 r l) = quant (k0_pay83 (F := Ideal) a z) (y (ix2 r l)) := by
  unfold k0_pay85 quant
  generalize k0_pay83 (F := Ideal) a z = s
  pointwise []

theorem out_r (y : FVec Ideal S512x1024 .f32) (a : EReal) (z : Vec Ideal S56x128 .f32) (r : Fin 512) (l : Fin 1024) :
    k0_pay86 (k0_pay83 (F := Ideal) a z) (k0_pay84 y a z) (ix2 r l) = quant (k0_pay83 (F := Ideal) a z) (y (ix2 r l)) := by
  unfold k0_pay86 k0_pay84 quant
  generalize k0_pay83 (F := Ideal) a z = s
  pointwise []

/-- The result of a device at an index. -/
theorem result_at (c : Dev nD) (r : Fin 512) (n : Fin 2048) :
    result X W c (ix2 r n) = quant (scale X W) (total X W (rowOf c r) n) := by
  obtain ⟨d, l, rfl⟩ := col_split n
  unfold result outF
  have he : (ix2 r (colOf d l) : S512x2048.Idx) = (orect d).emb (match d with | false => (ix2 r l : S512x1024.Idx) | true => (ix2 r l : S512x1024.Idx)) := by
    funext a
    refine Fin.ext ?_
    cases d
    · show _ = (![0, 1024] : Fin 2 → ℕ) a + 1 * ((ix2 r l : S512x1024.Idx) a).val
      match a with
      | 0 => simp [ix2]
      | 1 => simp [ix2, colOf]
    · show _ = (![0, 0] : Fin 2 → ℕ) a + 1 * ((ix2 r l : S512x1024.Idx) a).val
      match a with
      | 0 => simp [ix2]
      | 1 => simp [ix2, colOf]
  haveI : Nonempty (Elt Ideal .f32) := Elt.nonempty Ideal _
  rw [he]
  refine (glue_emb orect orect_disjoint _ d _).trans ?_
  cases d
  · show k0_pay86 _ _ (ix2 r l) = _
    rw [out_r, scale_eq X W, right_at X W]
  · show k0_pay85 _ _ _ (ix2 r l) = _
    rw [out_l, scale_eq X W, left_at X W]

end Cert.KernelIdeal.Ring

end
-- ==== Proof.Whole.lean ====
/- The reference's result over the extended reals, read at an index. -/
module

public import proofs.«01_k».proof.Proof.Total
public import proofs.«01_k».proof.Proof.Gen.ReferenceIdeal.Run
public import Idealize.ShloMosaic.Lib.Pointwise

@[expose] public section

noncomputable section

namespace Cert.ReferenceIdeal.Ring

open Idealize.ShloMosaic
open Cert.ReferenceIdeal Cert.ReferenceIdeal.Gen
open Facts
open Cert.KernelIdeal.Ring (rowOf contrib total scale quant low size allMax size_le result result_at)

attribute [local instance] Cert.ReferenceIdeal.Gen.facts

set_option maxRecDepth 16384

/-- The reference's product. -/
abbrev prod (x : FVec Ideal S4096x4096 .f32) (w : FVec Ideal S4096x2048 .f32) : FVec Ideal S4096x2048 .f32 :=
  Host.dotGeneral dot_S4096x4096_S4096x2048_S4096x2048_1_0_0_1_n_n none x w

/-- The reference's scale. -/
abbrev scaleOf (y : FVec Ideal S4096x2048 .f32) : FVec Ideal S_ .f32 :=
  Host.divf (Host.reduce FloatOps.maximumf (Host.absf y) (constant S_ .f32 0xFF800000#32) reducesTo_S4096x2048_S_d0_1 h_S_) (constant S_ .f32 0x42FE0000#32)

/-- The reference's rounding. -/
abbrev roundOf (y : FVec Ideal S4096x2048 .f32) (s : FVec Ideal S_ .f32) : FVec Ideal S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf y (broadcastInDim S4096x2048 ![] bcast_S_S4096x2048 s))))) (broadcastInDim S4096x2048 ![] bcast_S_S4096x2048 s)

theorem prod_at (x : FVec Ideal S4096x4096 .f32) (w : FVec Ideal S4096x2048 .f32) (i : Fin 4096) (n : Fin 2048) :
    prod x w (ix2 i n) = (∑ k : Fin 4096, x (ix2 i k) * w (ix2 k n) : EReal) := by
  unfold prod
  pointwise []

theorem scale_at (y : FVec Ideal S4096x2048 .f32) :
    scaleOf y ix0 = Ideal.div (Finset.fold max low (fun x : Fin 4096 × Fin 2048 => size (y (ix2 x.1 x.2))) Finset.univ) (Ideal.ofBits .f32 0x42FE0000#32) := by
  unfold scaleOf
  pointwise []

theorem round_at (y : FVec Ideal S4096x2048 .f32) (s : FVec Ideal S_ .f32) (i : Fin 4096) (n : Fin 2048) :
    roundOf y s (ix2 i n) = quant (s ix0) (y (ix2 i n)) := by
  unfold roundOf quant
  pointwise []
  rfl

/-! ## Against the devices' contributions -/

variable (X : Dev Cert.KernelIdeal.nD → Cert.KernelIdeal.S4096x512.Idx → Elt Ideal .f32)
variable (W : Dev Cert.KernelIdeal.nD → Cert.KernelIdeal.S512x2048.Idx → Elt Ideal .f32)
variable (x : FVec Ideal S4096x4096 .f32) (w : FVec Ideal S4096x2048 .f32)

/-- A sum over the contracted axis, device by device. -/
theorem sum_split (g : Fin 4096 → EReal) : ∑ k, g k = ∑ e : Dev Cert.KernelIdeal.nD, ∑ k : Fin 512, g (rowOf e k) := by
  rw [← Fintype.sum_prod_type' fun (e : Dev Cert.KernelIdeal.nD) (k : Fin 512) => g (rowOf e k)]
  refine (Fintype.sum_equiv (finProdFinEquiv : Fin 8 × Fin 512 ≃ Fin 4096) _ _ fun t => ?_).symm
  congr 1
  exact Fin.ext (Nat.add_comm _ _)

/-! An infinite factor makes the split product differ from the plain one at most in which infinity it is. The two are
   then infinite of either sign, the largest size is `⊤` on both sides, and so is the scale, at which everything is
   rounded to the same. -/

/-- Equal, or both infinite. -/
def Agree (a b : EReal) : Prop := a = b ∨ (max a (-a) = ⊤ ∧ max b (-b) = ⊤)

theorem size_top {a : EReal} : max a (-a) = ⊤ ↔ a = ⊤ ∨ a = ⊥ := by
  induction a <;> simp [max_eq_top, EReal.neg_eq_top_iff]

theorem top_add (a b : EReal) (h : max a (-a) = ⊤) : max (a + b) (-(a + b)) = ⊤ := by
  rcases size_top.1 h with rfl | rfl
  · induction b <;> simp
  · simp

theorem Agree.add {a b a' b' : EReal} (h : Agree a b) (h' : Agree a' b') : Agree (a + a') (b + b') := by
  rcases h with rfl | h
  · rcases h' with rfl | h'
    · exact .inl rfl
    · exact .inr ⟨by rw [add_comm]; exact top_add _ _ h'.1, by rw [add_comm]; exact top_add _ _ h'.2⟩
  · exact .inr ⟨top_add _ _ h.1, top_add _ _ h.2⟩

theorem Agree.sum {ι : Type} (s : Finset ι) (f g : ι → EReal) (h : ∀ i, Agree (f i) (g i)) : Agree (∑ i ∈ s, f i) (∑ i ∈ s, g i) := by
  classical
  induction s using Finset.induction_on with
  | empty => exact .inl rfl
  | insert a s ha ih =>
    rw [Finset.sum_insert ha, Finset.sum_insert ha]
    exact (h a).add ih

theorem Agree.size_eq {a b : EReal} (h : Agree a b) : max a (-a) = max b (-b) := by
  rcases h with rfl | h
  · rfl
  · rw [h.1, h.2]

theorem mul_top (a b : EReal) (ha : max a (-a) = ⊤) (hb : b ≠ 0) : max (a * b) (-(a * b)) = ⊤ := by
  rcases lt_or_gt_of_ne hb with h | h <;> rcases size_top.1 ha with rfl | rfl
  · rw [EReal.top_mul_of_neg h]; simp
  · rw [EReal.bot_mul_of_neg h]; simp
  · rw [EReal.top_mul_of_pos h]; simp
  · rw [EReal.bot_mul_of_pos h]; simp

/-- One split product against the plain one. -/
theorem term_agree (a b : EReal) : Agree (a * b + a * (b - b) + (a - a) * b) (a * b) := by
  by_cases ha : a = 0
  · rw [ha]; exact .inl (by simp)
  by_cases hb : b = 0
  · rw [hb]; exact .inl (by simp)
  by_cases h : max (a * b) (-(a * b)) = ⊤
  · exact .inr ⟨top_add _ _ (top_add _ _ h), h⟩
  have hfa : ¬ max a (-a) = ⊤ := fun e => h (mul_top a b e hb)
  have hfb : ¬ max b (-b) = ⊤ := fun e => h (by rw [mul_comm]; exact mul_top b a e ha)
  rw [size_top, not_or] at hfa hfb
  rw [EReal.sub_self hfa.1 hfa.2, EReal.sub_self hfb.1 hfb.2]
  exact .inl (by simp)

theorem contrib_agree (c : Dev Cert.KernelIdeal.nD) (i : Fin 4096) (n : Fin 2048) :
    Agree (contrib X W c i n) (∑ k : Fin 512, X c (ix2 i k) * W c (ix2 k n) : EReal) := by
  unfold contrib
  rw [← Finset.sum_add_distrib, ← Finset.sum_add_distrib]
  exact Agree.sum _ _ _ fun k => term_agree _ _

theorem prod_agree (hx : ∀ c i k, X c (ix2 i k) = x (ix2 i (rowOf c k))) (hw : ∀ c k n, W c (ix2 k n) = w (ix2 (rowOf c k) n))
    (i : Fin 4096) (n : Fin 2048) : Agree (total X W i n) (prod x w (ix2 i n)) := by
  rw [prod_at, sum_split]
  simp only [← hx, ← hw]
  exact Agree.sum _ _ _ fun c => contrib_agree X W c i n

theorem max_eq (hx : ∀ c i k, X c (ix2 i k) = x (ix2 i (rowOf c k))) (hw : ∀ c k n, W c (ix2 k n) = w (ix2 (rowOf c k) n)) :
    allMax X W = Finset.fold max low (fun t : Fin 4096 × Fin 2048 => size (prod x w (ix2 t.1 t.2))) Finset.univ :=
  Finset.fold_congr fun t _ => (prod_agree X W x w hx hw t.1 t.2).size_eq

theorem scale_eq (hx : ∀ c i k, X c (ix2 i k) = x (ix2 i (rowOf c k))) (hw : ∀ c k n, W c (ix2 k n) = w (ix2 (rowOf c k) n)) :
    scaleOf (prod x w) ix0 = scale X W := by
  rw [scale_at, ← max_eq X W x w hx hw]
  rfl

theorem top_scale : Ideal.div ⊤ (Ideal.ofBits .f32 0x42FE0000#32) = ⊤ := by
  have h : Ideal.ofBits .f32 0x42FE0000#32 = ((127 : ℝ) : EReal) := by
    simp [Ideal.ofBits, Ideal.ieee, -EReal.coe_mul]; norm_num
  rw [h, Ideal.div_coe (by norm_num : (127 : ℝ) ≠ 0)]
  exact EReal.top_mul_coe_of_pos (by norm_num)

theorem quant_top (a b : EReal) : quant ⊤ a = quant ⊤ b := by
  unfold quant Ideal.div
  simp

theorem value_eq (hx : ∀ c i k, X c (ix2 i k) = x (ix2 i (rowOf c k))) (hw : ∀ c k n, W c (ix2 k n) = w (ix2 (rowOf c k) n))
    (c : Dev Cert.KernelIdeal.nD) (r : Fin 512) (n : Fin 2048) :
    result X W c (ix2 r n) = roundOf (prod x w) (scaleOf (prod x w)) (ix2 (rowOf c r) n) := by
  rw [result_at X W, round_at, scale_eq X W x w hx hw]
  rcases prod_agree X W x w hx hw (rowOf c r) n with h | h
  · rw [h]
  · have ht : allMax X W = ⊤ := top_le_iff.1 (h.1 ▸ size_le X W (rowOf c r) n)
    have hs : scale X W = ⊤ := by
      unfold scale
      rw [ht, top_scale]
    rw [hs]
    exact quant_top _ _

end Cert.ReferenceIdeal.Ring

end
-- ==== Proof.Algebraic.lean ====
/- The kernel computes the reference's result over the extended reals. -/
module

public import proofs.«01_k».proof.Proof.Frames
public import proofs.«01_k».proof.Proof.Final
public import proofs.«01_k».proof.Proof.Whole

@[expose] public section

noncomputable section

namespace Cert.Proof

open Idealize.ShloMosaic Idealize.ShloMosaic.TcCoe Idealize.SL.Sem
open Cert.KernelIdeal.Ring

attribute [local instance] Cert.Kernel.Gen.facts Cert.KernelIdeal.Gen.facts Cert.ReferenceIdeal.Gen.facts

theorem algebraic : Cert.algebraic_KernelIdeal_ReferenceIdeal := fun m ρ m' ρ' hpre hin => by
  let x := m' (((0 : Dev Cert.ReferenceIdeal.nD).tc : Thread Cert.ReferenceIdeal.nD Cert.ReferenceIdeal.τ).loc Cert.ReferenceIdeal.main_arg0)
  let w := m' (((0 : Dev Cert.ReferenceIdeal.nD).tc : Thread Cert.ReferenceIdeal.nD Cert.ReferenceIdeal.τ).loc Cert.ReferenceIdeal.main_arg1)
  have hx : ∀ c (i : Fin 4096) (k : Fin 512), Xs m c (ix2 i k) = x (ix2 i (rowOf c k)) := fun c i k => by
    rw [Xs_eq, (hin c).1, Layout.block_apply]
    congr 1
    funext a
    match a with
    | 0 => rfl
    | 1 => exact Fin.ext (by show c.val * 512 + k.val = 512 * c.val + k.val; omega)
  have hw : ∀ c (k : Fin 512) (n : Fin 2048), Ws m c (ix2 k n) = w (ix2 (rowOf c k) n) := fun c k n => by
    rw [Ws_eq, (hin c).2, Layout.block_apply]
    congr 1
    funext a
    match a with
    | 0 => exact Fin.ext (by show c.val * 512 + k.val = 512 * c.val + k.val; omega)
    | 1 => rfl
  refine ⟨Cert.ReferenceIdeal.Ring.roundOf (Cert.ReferenceIdeal.Ring.prod x w) (Cert.ReferenceIdeal.Ring.scaleOf (Cert.ReferenceIdeal.Ring.prod x w)), ?_, ?_⟩
  · refine (θ_run Cert.KernelIdeal.defs _ _).mono (fun r h c => ⟨?_, kept m ρ r h.1 c⟩) (run_main (F := Ideal) m ρ)
    refine ((h.1 c (2 : Fin 3)).trans (finalA_2 m ρ c)).trans ?_
    funext i
    rw [Layout.block_apply]
    have hi : (i : Cert.KernelIdeal.S512x2048.Idx) = ix2 (i 0) (i 1) := eq_ix2 i
    refine (congrArg (outAt m c) hi).trans ((Cert.ReferenceIdeal.Ring.value_eq (Xs m) (Ws m) x w hx hw c (i 0) (i 1)).trans ?_)
    congr 1
    funext a
    match a with
    | 0 => exact Fin.ext (by show 512 * c.val + (i 0).val = c.val * 512 + (i 0).val; omega)
    | 1 => rfl
  · exact (θ_run Cert.ReferenceIdeal.defs _ _).mono (fun r h => h 0) (Cert.ReferenceIdeal.Value.run (F := Ideal) m' ρ')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, frame_kernel, frame_kernelIdeal,
    frame_reference, trivial, algebraic⟩

end Cert.Proof

end
